-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x2048 : Shape := ⟨3, ![16, 2048, 2048]⟩
abbrev S16 : Shape := ⟨1, ![16]⟩
abbrev S10x256x2048 : Shape := ⟨3, ![10, 256, 2048]⟩
abbrev S8x256x2048 : Shape := ⟨3, ![8, 256, 2048]⟩
abbrev S10x16 : Shape := ⟨2, ![10, 16]⟩
abbrev S8 : Shape := ⟨1, ![8]⟩
abbrev S1 : Shape := ⟨1, ![1]⟩
abbrev S1x1 : Shape := ⟨2, ![1, 1]⟩
abbrev S_ : Shape := ⟨0, ![]⟩
abbrev S1x256x128 : Shape := ⟨3, ![1, 256, 128]⟩
abbrev S256x128 : Shape := ⟨2, ![256, 128]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 2
  | .vmem => 2
  | .smem => 2
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .local _ .vmem, ⟨0, _⟩ => ⟨S10x256x2048, .f32⟩
  | .local _ .vmem, ⟨1, _⟩ => ⟨S8x256x2048, .f32⟩
  | .local _ .smem, ⟨0, _⟩ => ⟨S16, .i32⟩
  | .local _ .smem, ⟨1, _⟩ => ⟨S16, .i32⟩
  | _, _ => ⟨S16x2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c0_i32_1198 : BitVec 32 := 0#32
  ![0, v1814.toNat, 0]
def k0_off2 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c128_i32_1198 : BitVec 32 := 128#32
  ![0, v1814.toNat, 128]
def k0_off3 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c256_i32_1198 : BitVec 32 := 256#32
  ![0, v1814.toNat, 256]
def k0_off4 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c384_i32_1198 : BitVec 32 := 384#32
  ![0, v1814.toNat, 384]
def k0_off5 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c512_i32_1198 : BitVec 32 := 512#32
  ![0, v1814.toNat, 512]
def k0_off6 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c640_i32_1198 : BitVec 32 := 640#32
  ![0, v1814.toNat, 640]
def k0_off7 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c768_i32_1198 : BitVec 32 := 768#32
  ![0, v1814.toNat, 768]
def k0_off8 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c896_i32_1198 : BitVec 32 := 896#32
  ![0, v1814.toNat, 896]
def k0_off9 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off10 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off11 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off12 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off13 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off14 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off15 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off16 : Fin 3 → Nat :=
  let c0_i32_1192 : BitVec 32 := 0#32
  let c0_i32_1189 : BitVec 32 := 0#32
  let c8_i32_1190 : BitVec 32 := 8#32
  let v1813 : BitVec 32 := Scalar.remsi c0_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off17 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c0_i32_1198 : BitVec 32 := 0#32
  ![0, v1814.toNat, 0]
def k0_off18 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c128_i32_1198 : BitVec 32 := 128#32
  ![0, v1814.toNat, 128]
def k0_off19 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c256_i32_1198 : BitVec 32 := 256#32
  ![0, v1814.toNat, 256]
def k0_off20 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c384_i32_1198 : BitVec 32 := 384#32
  ![0, v1814.toNat, 384]
def k0_off21 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c512_i32_1198 : BitVec 32 := 512#32
  ![0, v1814.toNat, 512]
def k0_off22 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c640_i32_1198 : BitVec 32 := 640#32
  ![0, v1814.toNat, 640]
def k0_off23 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c768_i32_1198 : BitVec 32 := 768#32
  ![0, v1814.toNat, 768]
def k0_off24 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c896_i32_1198 : BitVec 32 := 896#32
  ![0, v1814.toNat, 896]
def k0_off25 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off26 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off27 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off28 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off29 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off30 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off31 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off32 : Fin 3 → Nat :=
  let c0_i32_1192 : BitVec 32 := 0#32
  let c1_i32_1189 : BitVec 32 := 1#32
  let c8_i32_1190 : BitVec 32 := 8#32
  let v1813 : BitVec 32 := Scalar.remsi c1_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off33 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c0_i32_1198 : BitVec 32 := 0#32
  ![0, v1814.toNat, 0]
def k0_off34 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c128_i32_1198 : BitVec 32 := 128#32
  ![0, v1814.toNat, 128]
def k0_off35 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c256_i32_1198 : BitVec 32 := 256#32
  ![0, v1814.toNat, 256]
def k0_off36 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c384_i32_1198 : BitVec 32 := 384#32
  ![0, v1814.toNat, 384]
def k0_off37 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c512_i32_1198 : BitVec 32 := 512#32
  ![0, v1814.toNat, 512]
def k0_off38 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c640_i32_1198 : BitVec 32 := 640#32
  ![0, v1814.toNat, 640]
def k0_off39 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c768_i32_1198 : BitVec 32 := 768#32
  ![0, v1814.toNat, 768]
def k0_off40 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c896_i32_1198 : BitVec 32 := 896#32
  ![0, v1814.toNat, 896]
def k0_off41 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off42 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off43 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off44 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off45 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off46 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off47 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off48 : Fin 3 → Nat :=
  let c0_i32_1192 : BitVec 32 := 0#32
  let c2_i32_1189 : BitVec 32 := 2#32
  let c8_i32_1190 : BitVec 32 := 8#32
  let v1813 : BitVec 32 := Scalar.remsi c2_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off49 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c0_i32_1198 : BitVec 32 := 0#32
  ![0, v1814.toNat, 0]
def k0_off50 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c128_i32_1198 : BitVec 32 := 128#32
  ![0, v1814.toNat, 128]
def k0_off51 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c256_i32_1198 : BitVec 32 := 256#32
  ![0, v1814.toNat, 256]
def k0_off52 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c384_i32_1198 : BitVec 32 := 384#32
  ![0, v1814.toNat, 384]
def k0_off53 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c512_i32_1198 : BitVec 32 := 512#32
  ![0, v1814.toNat, 512]
def k0_off54 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c640_i32_1198 : BitVec 32 := 640#32
  ![0, v1814.toNat, 640]
def k0_off55 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c768_i32_1198 : BitVec 32 := 768#32
  ![0, v1814.toNat, 768]
def k0_off56 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c896_i32_1198 : BitVec 32 := 896#32
  ![0, v1814.toNat, 896]
def k0_off57 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off58 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off59 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off60 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off61 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off62 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off63 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off64 : Fin 3 → Nat :=
  let c0_i32_1192 : BitVec 32 := 0#32
  let c3_i32_1189 : BitVec 32 := 3#32
  let c8_i32_1190 : BitVec 32 := 8#32
  let v1813 : BitVec 32 := Scalar.remsi c3_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off65 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c0_i32_1198 : BitVec 32 := 0#32
  ![0, v1814.toNat, 0]
def k0_off66 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c128_i32_1198 : BitVec 32 := 128#32
  ![0, v1814.toNat, 128]
def k0_off67 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c256_i32_1198 : BitVec 32 := 256#32
  ![0, v1814.toNat, 256]
def k0_off68 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c384_i32_1198 : BitVec 32 := 384#32
  ![0, v1814.toNat, 384]
def k0_off69 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c512_i32_1198 : BitVec 32 := 512#32
  ![0, v1814.toNat, 512]
def k0_off70 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c640_i32_1198 : BitVec 32 := 640#32
  ![0, v1814.toNat, 640]
def k0_off71 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c768_i32_1198 : BitVec 32 := 768#32
  ![0, v1814.toNat, 768]
def k0_off72 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c896_i32_1198 : BitVec 32 := 896#32
  ![0, v1814.toNat, 896]
def k0_off73 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off74 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off75 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off76 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off77 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off78 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off79 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off80 : Fin 3 → Nat :=
  let c0_i32_1192 : BitVec 32 := 0#32
  let c4_i32_1189 : BitVec 32 := 4#32
  let c8_i32_1190 : BitVec 32 := 8#32
  let v1813 : BitVec 32 := Scalar.remsi c4_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off81 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c0_i32_1198 : BitVec 32 := 0#32
  ![0, v1814.toNat, 0]
def k0_off82 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c128_i32_1198 : BitVec 32 := 128#32
  ![0, v1814.toNat, 128]
def k0_off83 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c256_i32_1198 : BitVec 32 := 256#32
  ![0, v1814.toNat, 256]
def k0_off84 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c384_i32_1198 : BitVec 32 := 384#32
  ![0, v1814.toNat, 384]
def k0_off85 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c512_i32_1198 : BitVec 32 := 512#32
  ![0, v1814.toNat, 512]
def k0_off86 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c640_i32_1198 : BitVec 32 := 640#32
  ![0, v1814.toNat, 640]
def k0_off87 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c768_i32_1198 : BitVec 32 := 768#32
  ![0, v1814.toNat, 768]
def k0_off88 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c896_i32_1198 : BitVec 32 := 896#32
  ![0, v1814.toNat, 896]
def k0_off89 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off90 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off91 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off92 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off93 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off94 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off95 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off96 : Fin 3 → Nat :=
  let c0_i32_1192 : BitVec 32 := 0#32
  let c5_i32_1189 : BitVec 32 := 5#32
  let c8_i32_1190 : BitVec 32 := 8#32
  let v1813 : BitVec 32 := Scalar.remsi c5_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off97 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c0_i32_1198 : BitVec 32 := 0#32
  ![0, v1814.toNat, 0]
def k0_off98 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c128_i32_1198 : BitVec 32 := 128#32
  ![0, v1814.toNat, 128]
def k0_off99 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c256_i32_1198 : BitVec 32 := 256#32
  ![0, v1814.toNat, 256]
def k0_off100 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c384_i32_1198 : BitVec 32 := 384#32
  ![0, v1814.toNat, 384]
def k0_off101 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c512_i32_1198 : BitVec 32 := 512#32
  ![0, v1814.toNat, 512]
def k0_off102 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c640_i32_1198 : BitVec 32 := 640#32
  ![0, v1814.toNat, 640]
def k0_off103 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c768_i32_1198 : BitVec 32 := 768#32
  ![0, v1814.toNat, 768]
def k0_off104 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c896_i32_1198 : BitVec 32 := 896#32
  ![0, v1814.toNat, 896]
def k0_off105 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off106 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off107 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off108 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off109 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off110 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off111 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off112 : Fin 3 → Nat :=
  let c0_i32_1192 : BitVec 32 := 0#32
  let c6_i32_1189 : BitVec 32 := 6#32
  let c8_i32_1190 : BitVec 32 := 8#32
  let v1813 : BitVec 32 := Scalar.remsi c6_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off113 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c0_i32_1198 : BitVec 32 := 0#32
  ![0, v1814.toNat, 0]
def k0_off114 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c128_i32_1198 : BitVec 32 := 128#32
  ![0, v1814.toNat, 128]
def k0_off115 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c256_i32_1198 : BitVec 32 := 256#32
  ![0, v1814.toNat, 256]
def k0_off116 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c384_i32_1198 : BitVec 32 := 384#32
  ![0, v1814.toNat, 384]
def k0_off117 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c512_i32_1198 : BitVec 32 := 512#32
  ![0, v1814.toNat, 512]
def k0_off118 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c640_i32_1198 : BitVec 32 := 640#32
  ![0, v1814.toNat, 640]
def k0_off119 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c768_i32_1198 : BitVec 32 := 768#32
  ![0, v1814.toNat, 768]
def k0_off120 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c896_i32_1198 : BitVec 32 := 896#32
  ![0, v1814.toNat, 896]
def k0_off121 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1024_i32_1198 : BitVec 32 := 1024#32
  ![0, v1814.toNat, 1024]
def k0_off122 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1152_i32_1198 : BitVec 32 := 1152#32
  ![0, v1814.toNat, 1152]
def k0_off123 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1280_i32_1198 : BitVec 32 := 1280#32
  ![0, v1814.toNat, 1280]
def k0_off124 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1408_i32_1197 : BitVec 32 := 1408#32
  ![0, v1814.toNat, 1408]
def k0_off125 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1536_i32_1197 : BitVec 32 := 1536#32
  ![0, v1814.toNat, 1536]
def k0_off126 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1664_i32_1197 : BitVec 32 := 1664#32
  ![0, v1814.toNat, 1664]
def k0_off127 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1792_i32_1197 : BitVec 32 := 1792#32
  ![0, v1814.toNat, 1792]
def k0_off128 : Fin 3 → Nat :=
  let c0_i32_1192 : BitVec 32 := 0#32
  let c7_i32_1189 : BitVec 32 := 7#32
  let c8_i32_1190 : BitVec 32 := 8#32
  let v1813 : BitVec 32 := Scalar.remsi c7_i32_1189 c8_i32_1190
  let c256_i32_1191 : BitVec 32 := 256#32
  let v1814 : BitVec 32 := Scalar.muli v1813 c256_i32_1191
  let c1920_i32_1197 : BitVec 32 := 1920#32
  ![0, v1814.toNat, 1920]
def k0_off129 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c0_i32_1198 : BitVec 32 := 0#32
  ![1, v1814.toNat, 0]
def k0_off130 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c128_i32_1198 : BitVec 32 := 128#32
  ![1, v1814.toNat, 128]
def k0_off131 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c256_i32_1198 : BitVec 32 := 256#32
  ![1, v1814.toNat, 256]
def k0_off132 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c384_i32_1198 : BitVec 32 := 384#32
  ![1, v1814.toNat, 384]
def k0_off133 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c512_i32_1198 : BitVec 32 := 512#32
  ![1, v1814.toNat, 512]
def k0_off134 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c640_i32_1198 : BitVec 32 := 640#32
  ![1, v1814.toNat, 640]
def k0_off135 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c768_i32_1198 : BitVec 32 := 768#32
  ![1, v1814.toNat, 768]
def k0_off136 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c896_i32_1198 : BitVec 32 := 896#32
  ![1, v1814.toNat, 896]
def k0_off137 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1024_i32_1198 : BitVec 32 := 1024#32
  ![1, v1814.toNat, 1024]
def k0_off138 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1152_i32_1198 : BitVec 32 := 1152#32
  ![1, v1814.toNat, 1152]
def k0_off139 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1280_i32_1198 : BitVec 32 := 1280#32
  ![1, v1814.toNat, 1280]
def k0_off140 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1408_i32_1197 : BitVec 32 := 1408#32
  ![1, v1814.toNat, 1408]
def k0_off141 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1536_i32_1197 : BitVec 32 := 1536#32
  ![1, v1814.toNat, 1536]
def k0_off142 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1664_i32_1197 : BitVec 32 := 1664#32
  ![1, v1814.toNat, 1664]
def k0_off143 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1792_i32_1197 : BitVec 32 := 1792#32
  ![1, v1814.toNat, 1792]
def k0_off144 : Fin 3 → Nat :=
  let c1_i32_1192 : BitVec 32 := 1#32
  let c8_i32_1189 : BitVec 32 := 8#32
  let c8_i32_1190 : BitVec 32 := 8#32
  let v1813 : BitVec 32 := Scalar.remsi c8_i32_1189 c8_i32_1190
  let c256_i32_1191 : BitVec 32 := 256#32
  let v1814 : BitVec 32 := Scalar.muli v1813 c256_i32_1191
  let c1920_i32_1197 : BitVec 32 := 1920#32
  ![1, v1814.toNat, 1920]
def k0_cond146 (i : grid0.Coords) : BitVec 1 :=
  let arg0 : BitVec 32 := BitVec.ofNat 32 (i 0).val
  let c9_i32 : BitVec 32 := 9#32
  let v5 : BitVec 32 := Scalar.addi arg0 c9_i32
  let c128_i32 : BitVec 32 := 128#32
  let v6 : BitVec 1 := Scalar.cmpi .slt v5 c128_i32
  let v7 : BitVec 32 := Scalar.extui v6
  let c0_i32_1 : BitVec 32 := 0#32
  let v8 : BitVec 1 := Scalar.cmpi .ne v7 c0_i32_1
  v8

def k0_off145 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_193 : BitVec 32 := 0#32
  let v521 : BitVec 1 := Scalar.cmpi .sgt v517 c0_i32_193
  let v522 : BitVec 32 := Scalar.extui v521
  let c0_i32_194 : BitVec 32 := 0#32
  let v523 : BitVec 1 := Scalar.cmpi .slt v517 c0_i32_194
  let v524 : BitVec 32 := Scalar.extui v523
  let v525 : BitVec 32 := Scalar.subi v522 v524
  let c8_i32_192 : BitVec 32 := 8#32
  let c0_i32_195 : BitVec 32 := 0#32
  let v526 : BitVec 1 := Scalar.cmpi .sgt c8_i32_192 c0_i32_195
  let v527 : BitVec 32 := Scalar.extui v526
  let c0_i32_196 : BitVec 32 := 0#32
  let v528 : BitVec 1 := Scalar.cmpi .slt c8_i32_192 c0_i32_196
  let v529 : BitVec 32 := Scalar.extui v528
  let v530 : BitVec 32 := Scalar.subi v527 v529
  let v531 : BitVec 1 := Scalar.cmpi .ne v525 v530
  let v532 : BitVec 32 := Scalar.remsi v517 c8_i32_192
  let c0_i32_197 : BitVec 32 := 0#32
  let v533 : BitVec 1 := Scalar.cmpi .ne v532 c0_i32_197
  let v534 : BitVec 1 := Scalar.andi v531 v533
  let v520 : BitVec 32 := Scalar.divsi v517 c8_i32_192
  let c1_i32_198 : BitVec 32 := 1#32
  let v535 : BitVec 32 := Scalar.subi v520 c1_i32_198
  let v536 : BitVec 32 := Scalar.select v534 v535 v520
  let v539 : Index := Scalar.indexCast v536
  ![v539.toNat]
def k0_off146 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  ![v519.toNat, 0]
def k0_off147 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_378 : BitVec 32 := 0#32
  let c0_i32_379 : BitVec 32 := 0#32
  ![v519.toNat, 0, 0]
def k0_off148 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c0_i32_380 : BitVec 32 := 0#32
  ![v984.toNat, v986.toNat, 0]
def k0_off149 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_204 : BitVec 32 := 0#32
  let v549 : BitVec 1 := Scalar.cmpi .sgt v517 c0_i32_204
  let v550 : BitVec 32 := Scalar.extui v549
  let c0_i32_205 : BitVec 32 := 0#32
  let v551 : BitVec 1 := Scalar.cmpi .slt v517 c0_i32_205
  let v552 : BitVec 32 := Scalar.extui v551
  let v553 : BitVec 32 := Scalar.subi v550 v552
  let c8_i32_203 : BitVec 32 := 8#32
  let c0_i32_206 : BitVec 32 := 0#32
  let v554 : BitVec 1 := Scalar.cmpi .sgt c8_i32_203 c0_i32_206
  let v555 : BitVec 32 := Scalar.extui v554
  let c0_i32_207 : BitVec 32 := 0#32
  let v556 : BitVec 1 := Scalar.cmpi .slt c8_i32_203 c0_i32_207
  let v557 : BitVec 32 := Scalar.extui v556
  let v558 : BitVec 32 := Scalar.subi v555 v557
  let v559 : BitVec 1 := Scalar.cmpi .ne v553 v558
  let v560 : BitVec 32 := Scalar.remsi v517 c8_i32_203
  let c0_i32_208 : BitVec 32 := 0#32
  let v561 : BitVec 1 := Scalar.cmpi .ne v560 c0_i32_208
  let v562 : BitVec 1 := Scalar.andi v559 v561
  let v548 : BitVec 32 := Scalar.divsi v517 c8_i32_203
  let c1_i32_209 : BitVec 32 := 1#32
  let v563 : BitVec 32 := Scalar.subi v548 c1_i32_209
  let v564 : BitVec 32 := Scalar.select v562 v563 v548
  let v567 : Index := Scalar.indexCast v564
  ![v567.toNat]
def k0_off150 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c1_i32_377 : BitVec 32 := 1#32
  ![v519.toNat, 1]
def k0_off151 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_378 : BitVec 32 := 0#32
  let c128_i32_379 : BitVec 32 := 128#32
  ![v519.toNat, 0, 128]
def k0_off152 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c128_i32_380 : BitVec 32 := 128#32
  ![v984.toNat, v986.toNat, 128]
def k0_off153 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_215 : BitVec 32 := 0#32
  let v577 : BitVec 1 := Scalar.cmpi .sgt v517 c0_i32_215
  let v578 : BitVec 32 := Scalar.extui v577
  let c0_i32_216 : BitVec 32 := 0#32
  let v579 : BitVec 1 := Scalar.cmpi .slt v517 c0_i32_216
  let v580 : BitVec 32 := Scalar.extui v579
  let v581 : BitVec 32 := Scalar.subi v578 v580
  let c8_i32_214 : BitVec 32 := 8#32
  let c0_i32_217 : BitVec 32 := 0#32
  let v582 : BitVec 1 := Scalar.cmpi .sgt c8_i32_214 c0_i32_217
  let v583 : BitVec 32 := Scalar.extui v582
  let c0_i32_218 : BitVec 32 := 0#32
  let v584 : BitVec 1 := Scalar.cmpi .slt c8_i32_214 c0_i32_218
  let v585 : BitVec 32 := Scalar.extui v584
  let v586 : BitVec 32 := Scalar.subi v583 v585
  let v587 : BitVec 1 := Scalar.cmpi .ne v581 v586
  let v588 : BitVec 32 := Scalar.remsi v517 c8_i32_214
  let c0_i32_219 : BitVec 32 := 0#32
  let v589 : BitVec 1 := Scalar.cmpi .ne v588 c0_i32_219
  let v590 : BitVec 1 := Scalar.andi v587 v589
  let v576 : BitVec 32 := Scalar.divsi v517 c8_i32_214
  let c1_i32_220 : BitVec 32 := 1#32
  let v591 : BitVec 32 := Scalar.subi v576 c1_i32_220
  let v592 : BitVec 32 := Scalar.select v590 v591 v576
  let v595 : Index := Scalar.indexCast v592
  ![v595.toNat]
def k0_off154 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c2_i32 : BitVec 32 := 2#32
  ![v519.toNat, 2]
def k0_off155 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c256_i32_378 : BitVec 32 := 256#32
  ![v519.toNat, 0, 256]
def k0_off156 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c256_i32_379 : BitVec 32 := 256#32
  ![v984.toNat, v986.toNat, 256]
def k0_off157 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_226 : BitVec 32 := 0#32
  let v605 : BitVec 1 := Scalar.cmpi .sgt v517 c0_i32_226
  let v606 : BitVec 32 := Scalar.extui v605
  let c0_i32_227 : BitVec 32 := 0#32
  let v607 : BitVec 1 := Scalar.cmpi .slt v517 c0_i32_227
  let v608 : BitVec 32 := Scalar.extui v607
  let v609 : BitVec 32 := Scalar.subi v606 v608
  let c8_i32_225 : BitVec 32 := 8#32
  let c0_i32_228 : BitVec 32 := 0#32
  let v610 : BitVec 1 := Scalar.cmpi .sgt c8_i32_225 c0_i32_228
  let v611 : BitVec 32 := Scalar.extui v610
  let c0_i32_229 : BitVec 32 := 0#32
  let v612 : BitVec 1 := Scalar.cmpi .slt c8_i32_225 c0_i32_229
  let v613 : BitVec 32 := Scalar.extui v612
  let v614 : BitVec 32 := Scalar.subi v611 v613
  let v615 : BitVec 1 := Scalar.cmpi .ne v609 v614
  let v616 : BitVec 32 := Scalar.remsi v517 c8_i32_225
  let c0_i32_230 : BitVec 32 := 0#32
  let v617 : BitVec 1 := Scalar.cmpi .ne v616 c0_i32_230
  let v618 : BitVec 1 := Scalar.andi v615 v617
  let v604 : BitVec 32 := Scalar.divsi v517 c8_i32_225
  let c1_i32_231 : BitVec 32 := 1#32
  let v619 : BitVec 32 := Scalar.subi v604 c1_i32_231
  let v620 : BitVec 32 := Scalar.select v618 v619 v604
  let v623 : Index := Scalar.indexCast v620
  ![v623.toNat]
def k0_off158 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c3_i32 : BitVec 32 := 3#32
  ![v519.toNat, 3]
def k0_off159 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c384_i32_378 : BitVec 32 := 384#32
  ![v519.toNat, 0, 384]
def k0_off160 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c384_i32_379 : BitVec 32 := 384#32
  ![v984.toNat, v986.toNat, 384]
def k0_off161 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_237 : BitVec 32 := 0#32
  let v633 : BitVec 1 := Scalar.cmpi .sgt v517 c0_i32_237
  let v634 : BitVec 32 := Scalar.extui v633
  let c0_i32_238 : BitVec 32 := 0#32
  let v635 : BitVec 1 := Scalar.cmpi .slt v517 c0_i32_238
  let v636 : BitVec 32 := Scalar.extui v635
  let v637 : BitVec 32 := Scalar.subi v634 v636
  let c8_i32_236 : BitVec 32 := 8#32
  let c0_i32_239 : BitVec 32 := 0#32
  let v638 : BitVec 1 := Scalar.cmpi .sgt c8_i32_236 c0_i32_239
  let v639 : BitVec 32 := Scalar.extui v638
  let c0_i32_240 : BitVec 32 := 0#32
  let v640 : BitVec 1 := Scalar.cmpi .slt c8_i32_236 c0_i32_240
  let v641 : BitVec 32 := Scalar.extui v640
  let v642 : BitVec 32 := Scalar.subi v639 v641
  let v643 : BitVec 1 := Scalar.cmpi .ne v637 v642
  let v644 : BitVec 32 := Scalar.remsi v517 c8_i32_236
  let c0_i32_241 : BitVec 32 := 0#32
  let v645 : BitVec 1 := Scalar.cmpi .ne v644 c0_i32_241
  let v646 : BitVec 1 := Scalar.andi v643 v645
  let v632 : BitVec 32 := Scalar.divsi v517 c8_i32_236
  let c1_i32_242 : BitVec 32 := 1#32
  let v647 : BitVec 32 := Scalar.subi v632 c1_i32_242
  let v648 : BitVec 32 := Scalar.select v646 v647 v632
  let v651 : Index := Scalar.indexCast v648
  ![v651.toNat]
def k0_off162 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c4_i32 : BitVec 32 := 4#32
  ![v519.toNat, 4]
def k0_off163 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c512_i32_378 : BitVec 32 := 512#32
  ![v519.toNat, 0, 512]
def k0_off164 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c512_i32_379 : BitVec 32 := 512#32
  ![v984.toNat, v986.toNat, 512]
def k0_off165 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_248 : BitVec 32 := 0#32
  let v661 : BitVec 1 := Scalar.cmpi .sgt v517 c0_i32_248
  let v662 : BitVec 32 := Scalar.extui v661
  let c0_i32_249 : BitVec 32 := 0#32
  let v663 : BitVec 1 := Scalar.cmpi .slt v517 c0_i32_249
  let v664 : BitVec 32 := Scalar.extui v663
  let v665 : BitVec 32 := Scalar.subi v662 v664
  let c8_i32_247 : BitVec 32 := 8#32
  let c0_i32_250 : BitVec 32 := 0#32
  let v666 : BitVec 1 := Scalar.cmpi .sgt c8_i32_247 c0_i32_250
  let v667 : BitVec 32 := Scalar.extui v666
  let c0_i32_251 : BitVec 32 := 0#32
  let v668 : BitVec 1 := Scalar.cmpi .slt c8_i32_247 c0_i32_251
  let v669 : BitVec 32 := Scalar.extui v668
  let v670 : BitVec 32 := Scalar.subi v667 v669
  let v671 : BitVec 1 := Scalar.cmpi .ne v665 v670
  let v672 : BitVec 32 := Scalar.remsi v517 c8_i32_247
  let c0_i32_252 : BitVec 32 := 0#32
  let v673 : BitVec 1 := Scalar.cmpi .ne v672 c0_i32_252
  let v674 : BitVec 1 := Scalar.andi v671 v673
  let v660 : BitVec 32 := Scalar.divsi v517 c8_i32_247
  let c1_i32_253 : BitVec 32 := 1#32
  let v675 : BitVec 32 := Scalar.subi v660 c1_i32_253
  let v676 : BitVec 32 := Scalar.select v674 v675 v660
  let v679 : Index := Scalar.indexCast v676
  ![v679.toNat]
def k0_off166 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c5_i32 : BitVec 32 := 5#32
  ![v519.toNat, 5]
def k0_off167 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c640_i32_378 : BitVec 32 := 640#32
  ![v519.toNat, 0, 640]
def k0_off168 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c640_i32_379 : BitVec 32 := 640#32
  ![v984.toNat, v986.toNat, 640]
def k0_off169 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_259 : BitVec 32 := 0#32
  let v689 : BitVec 1 := Scalar.cmpi .sgt v517 c0_i32_259
  let v690 : BitVec 32 := Scalar.extui v689
  let c0_i32_260 : BitVec 32 := 0#32
  let v691 : BitVec 1 := Scalar.cmpi .slt v517 c0_i32_260
  let v692 : BitVec 32 := Scalar.extui v691
  let v693 : BitVec 32 := Scalar.subi v690 v692
  let c8_i32_258 : BitVec 32 := 8#32
  let c0_i32_261 : BitVec 32 := 0#32
  let v694 : BitVec 1 := Scalar.cmpi .sgt c8_i32_258 c0_i32_261
  let v695 : BitVec 32 := Scalar.extui v694
  let c0_i32_262 : BitVec 32 := 0#32
  let v696 : BitVec 1 := Scalar.cmpi .slt c8_i32_258 c0_i32_262
  let v697 : BitVec 32 := Scalar.extui v696
  let v698 : BitVec 32 := Scalar.subi v695 v697
  let v699 : BitVec 1 := Scalar.cmpi .ne v693 v698
  let v700 : BitVec 32 := Scalar.remsi v517 c8_i32_258
  let c0_i32_263 : BitVec 32 := 0#32
  let v701 : BitVec 1 := Scalar.cmpi .ne v700 c0_i32_263
  let v702 : BitVec 1 := Scalar.andi v699 v701
  let v688 : BitVec 32 := Scalar.divsi v517 c8_i32_258
  let c1_i32_264 : BitVec 32 := 1#32
  let v703 : BitVec 32 := Scalar.subi v688 c1_i32_264
  let v704 : BitVec 32 := Scalar.select v702 v703 v688
  let v707 : Index := Scalar.indexCast v704
  ![v707.toNat]
def k0_off170 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c6_i32 : BitVec 32 := 6#32
  ![v519.toNat, 6]
def k0_off171 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c768_i32_378 : BitVec 32 := 768#32
  ![v519.toNat, 0, 768]
def k0_off172 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c768_i32_379 : BitVec 32 := 768#32
  ![v984.toNat, v986.toNat, 768]
def k0_off173 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_270 : BitVec 32 := 0#32
  let v717 : BitVec 1 := Scalar.cmpi .sgt v517 c0_i32_270
  let v718 : BitVec 32 := Scalar.extui v717
  let c0_i32_271 : BitVec 32 := 0#32
  let v719 : BitVec 1 := Scalar.cmpi .slt v517 c0_i32_271
  let v720 : BitVec 32 := Scalar.extui v719
  let v721 : BitVec 32 := Scalar.subi v718 v720
  let c8_i32_269 : BitVec 32 := 8#32
  let c0_i32_272 : BitVec 32 := 0#32
  let v722 : BitVec 1 := Scalar.cmpi .sgt c8_i32_269 c0_i32_272
  let v723 : BitVec 32 := Scalar.extui v722
  let c0_i32_273 : BitVec 32 := 0#32
  let v724 : BitVec 1 := Scalar.cmpi .slt c8_i32_269 c0_i32_273
  let v725 : BitVec 32 := Scalar.extui v724
  let v726 : BitVec 32 := Scalar.subi v723 v725
  let v727 : BitVec 1 := Scalar.cmpi .ne v721 v726
  let v728 : BitVec 32 := Scalar.remsi v517 c8_i32_269
  let c0_i32_274 : BitVec 32 := 0#32
  let v729 : BitVec 1 := Scalar.cmpi .ne v728 c0_i32_274
  let v730 : BitVec 1 := Scalar.andi v727 v729
  let v716 : BitVec 32 := Scalar.divsi v517 c8_i32_269
  let c1_i32_275 : BitVec 32 := 1#32
  let v731 : BitVec 32 := Scalar.subi v716 c1_i32_275
  let v732 : BitVec 32 := Scalar.select v730 v731 v716
  let v735 : Index := Scalar.indexCast v732
  ![v735.toNat]
def k0_off174 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c7_i32 : BitVec 32 := 7#32
  ![v519.toNat, 7]
def k0_off175 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c896_i32_378 : BitVec 32 := 896#32
  ![v519.toNat, 0, 896]
def k0_off176 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c896_i32_379 : BitVec 32 := 896#32
  ![v984.toNat, v986.toNat, 896]
def k0_off177 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_281 : BitVec 32 := 0#32
  let v745 : BitVec 1 := Scalar.cmpi .sgt v517 c0_i32_281
  let v746 : BitVec 32 := Scalar.extui v745
  let c0_i32_282 : BitVec 32 := 0#32
  let v747 : BitVec 1 := Scalar.cmpi .slt v517 c0_i32_282
  let v748 : BitVec 32 := Scalar.extui v747
  let v749 : BitVec 32 := Scalar.subi v746 v748
  let c8_i32_280 : BitVec 32 := 8#32
  let c0_i32_283 : BitVec 32 := 0#32
  let v750 : BitVec 1 := Scalar.cmpi .sgt c8_i32_280 c0_i32_283
  let v751 : BitVec 32 := Scalar.extui v750
  let c0_i32_284 : BitVec 32 := 0#32
  let v752 : BitVec 1 := Scalar.cmpi .slt c8_i32_280 c0_i32_284
  let v753 : BitVec 32 := Scalar.extui v752
  let v754 : BitVec 32 := Scalar.subi v751 v753
  let v755 : BitVec 1 := Scalar.cmpi .ne v749 v754
  let v756 : BitVec 32 := Scalar.remsi v517 c8_i32_280
  let c0_i32_285 : BitVec 32 := 0#32
  let v757 : BitVec 1 := Scalar.cmpi .ne v756 c0_i32_285
  let v758 : BitVec 1 := Scalar.andi v755 v757
  let v744 : BitVec 32 := Scalar.divsi v517 c8_i32_280
  let c1_i32_286 : BitVec 32 := 1#32
  let v759 : BitVec 32 := Scalar.subi v744 c1_i32_286
  let v760 : BitVec 32 := Scalar.select v758 v759 v744
  let v763 : Index := Scalar.indexCast v760
  ![v763.toNat]
def k0_off178 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c8_i32_377 : BitVec 32 := 8#32
  ![v519.toNat, 8]
def k0_off179 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_378 : BitVec 32 := 0#32
  let c1024_i32_379 : BitVec 32 := 1024#32
  ![v519.toNat, 0, 1024]
def k0_off180 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1024_i32_380 : BitVec 32 := 1024#32
  ![v984.toNat, v986.toNat, 1024]
def k0_off181 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_292 : BitVec 32 := 0#32
  let v773 : BitVec 1 := Scalar.cmpi .sgt v517 c0_i32_292
  let v774 : BitVec 32 := Scalar.extui v773
  let c0_i32_293 : BitVec 32 := 0#32
  let v775 : BitVec 1 := Scalar.cmpi .slt v517 c0_i32_293
  let v776 : BitVec 32 := Scalar.extui v775
  let v777 : BitVec 32 := Scalar.subi v774 v776
  let c8_i32_291 : BitVec 32 := 8#32
  let c0_i32_294 : BitVec 32 := 0#32
  let v778 : BitVec 1 := Scalar.cmpi .sgt c8_i32_291 c0_i32_294
  let v779 : BitVec 32 := Scalar.extui v778
  let c0_i32_295 : BitVec 32 := 0#32
  let v780 : BitVec 1 := Scalar.cmpi .slt c8_i32_291 c0_i32_295
  let v781 : BitVec 32 := Scalar.extui v780
  let v782 : BitVec 32 := Scalar.subi v779 v781
  let v783 : BitVec 1 := Scalar.cmpi .ne v777 v782
  let v784 : BitVec 32 := Scalar.remsi v517 c8_i32_291
  let c0_i32_296 : BitVec 32 := 0#32
  let v785 : BitVec 1 := Scalar.cmpi .ne v784 c0_i32_296
  let v786 : BitVec 1 := Scalar.andi v783 v785
  let v772 : BitVec 32 := Scalar.divsi v517 c8_i32_291
  let c1_i32_297 : BitVec 32 := 1#32
  let v787 : BitVec 32 := Scalar.subi v772 c1_i32_297
  let v788 : BitVec 32 := Scalar.select v786 v787 v772
  let v791 : Index := Scalar.indexCast v788
  ![v791.toNat]
def k0_off182 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c9_i32_377 : BitVec 32 := 9#32
  ![v519.toNat, 9]
def k0_off183 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_378 : BitVec 32 := 0#32
  let c1152_i32_379 : BitVec 32 := 1152#32
  ![v519.toNat, 0, 1152]
def k0_off184 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1152_i32_380 : BitVec 32 := 1152#32
  ![v984.toNat, v986.toNat, 1152]
def k0_off185 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_303 : BitVec 32 := 0#32
  let v801 : BitVec 1 := Scalar.cmpi .sgt v517 c0_i32_303
  let v802 : BitVec 32 := Scalar.extui v801
  let c0_i32_304 : BitVec 32 := 0#32
  let v803 : BitVec 1 := Scalar.cmpi .slt v517 c0_i32_304
  let v804 : BitVec 32 := Scalar.extui v803
  let v805 : BitVec 32 := Scalar.subi v802 v804
  let c8_i32_302 : BitVec 32 := 8#32
  let c0_i32_305 : BitVec 32 := 0#32
  let v806 : BitVec 1 := Scalar.cmpi .sgt c8_i32_302 c0_i32_305
  let v807 : BitVec 32 := Scalar.extui v806
  let c0_i32_306 : BitVec 32 := 0#32
  let v808 : BitVec 1 := Scalar.cmpi .slt c8_i32_302 c0_i32_306
  let v809 : BitVec 32 := Scalar.extui v808
  let v810 : BitVec 32 := Scalar.subi v807 v809
  let v811 : BitVec 1 := Scalar.cmpi .ne v805 v810
  let v812 : BitVec 32 := Scalar.remsi v517 c8_i32_302
  let c0_i32_307 : BitVec 32 := 0#32
  let v813 : BitVec 1 := Scalar.cmpi .ne v812 c0_i32_307
  let v814 : BitVec 1 := Scalar.andi v811 v813
  let v800 : BitVec 32 := Scalar.divsi v517 c8_i32_302
  let c1_i32_308 : BitVec 32 := 1#32
  let v815 : BitVec 32 := Scalar.subi v800 c1_i32_308
  let v816 : BitVec 32 := Scalar.select v814 v815 v800
  let v819 : Index := Scalar.indexCast v816
  ![v819.toNat]
def k0_off186 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c10_i32_377 : BitVec 32 := 10#32
  ![v519.toNat, 10]
def k0_off187 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_378 : BitVec 32 := 0#32
  let c1280_i32_379 : BitVec 32 := 1280#32
  ![v519.toNat, 0, 1280]
def k0_off188 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1280_i32_380 : BitVec 32 := 1280#32
  ![v984.toNat, v986.toNat, 1280]
def k0_off189 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_314 : BitVec 32 := 0#32
  let v829 : BitVec 1 := Scalar.cmpi .sgt v517 c0_i32_314
  let v830 : BitVec 32 := Scalar.extui v829
  let c0_i32_315 : BitVec 32 := 0#32
  let v831 : BitVec 1 := Scalar.cmpi .slt v517 c0_i32_315
  let v832 : BitVec 32 := Scalar.extui v831
  let v833 : BitVec 32 := Scalar.subi v830 v832
  let c8_i32_313 : BitVec 32 := 8#32
  let c0_i32_316 : BitVec 32 := 0#32
  let v834 : BitVec 1 := Scalar.cmpi .sgt c8_i32_313 c0_i32_316
  let v835 : BitVec 32 := Scalar.extui v834
  let c0_i32_317 : BitVec 32 := 0#32
  let v836 : BitVec 1 := Scalar.cmpi .slt c8_i32_313 c0_i32_317
  let v837 : BitVec 32 := Scalar.extui v836
  let v838 : BitVec 32 := Scalar.subi v835 v837
  let v839 : BitVec 1 := Scalar.cmpi .ne v833 v838
  let v840 : BitVec 32 := Scalar.remsi v517 c8_i32_313
  let c0_i32_318 : BitVec 32 := 0#32
  let v841 : BitVec 1 := Scalar.cmpi .ne v840 c0_i32_318
  let v842 : BitVec 1 := Scalar.andi v839 v841
  let v828 : BitVec 32 := Scalar.divsi v517 c8_i32_313
  let c1_i32_319 : BitVec 32 := 1#32
  let v843 : BitVec 32 := Scalar.subi v828 c1_i32_319
  let v844 : BitVec 32 := Scalar.select v842 v843 v828
  let v847 : Index := Scalar.indexCast v844
  ![v847.toNat]
def k0_off190 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c11_i32 : BitVec 32 := 11#32
  ![v519.toNat, 11]
def k0_off191 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c1408_i32_378 : BitVec 32 := 1408#32
  ![v519.toNat, 0, 1408]
def k0_off192 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1408_i32_379 : BitVec 32 := 1408#32
  ![v984.toNat, v986.toNat, 1408]
def k0_off193 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_325 : BitVec 32 := 0#32
  let v857 : BitVec 1 := Scalar.cmpi .sgt v517 c0_i32_325
  let v858 : BitVec 32 := Scalar.extui v857
  let c0_i32_326 : BitVec 32 := 0#32
  let v859 : BitVec 1 := Scalar.cmpi .slt v517 c0_i32_326
  let v860 : BitVec 32 := Scalar.extui v859
  let v861 : BitVec 32 := Scalar.subi v858 v860
  let c8_i32_324 : BitVec 32 := 8#32
  let c0_i32_327 : BitVec 32 := 0#32
  let v862 : BitVec 1 := Scalar.cmpi .sgt c8_i32_324 c0_i32_327
  let v863 : BitVec 32 := Scalar.extui v862
  let c0_i32_328 : BitVec 32 := 0#32
  let v864 : BitVec 1 := Scalar.cmpi .slt c8_i32_324 c0_i32_328
  let v865 : BitVec 32 := Scalar.extui v864
  let v866 : BitVec 32 := Scalar.subi v863 v865
  let v867 : BitVec 1 := Scalar.cmpi .ne v861 v866
  let v868 : BitVec 32 := Scalar.remsi v517 c8_i32_324
  let c0_i32_329 : BitVec 32 := 0#32
  let v869 : BitVec 1 := Scalar.cmpi .ne v868 c0_i32_329
  let v870 : BitVec 1 := Scalar.andi v867 v869
  let v856 : BitVec 32 := Scalar.divsi v517 c8_i32_324
  let c1_i32_330 : BitVec 32 := 1#32
  let v871 : BitVec 32 := Scalar.subi v856 c1_i32_330
  let v872 : BitVec 32 := Scalar.select v870 v871 v856
  let v875 : Index := Scalar.indexCast v872
  ![v875.toNat]
def k0_off194 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c12_i32 : BitVec 32 := 12#32
  ![v519.toNat, 12]
def k0_off195 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c1536_i32_378 : BitVec 32 := 1536#32
  ![v519.toNat, 0, 1536]
def k0_off196 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1536_i32_379 : BitVec 32 := 1536#32
  ![v984.toNat, v986.toNat, 1536]
def k0_off197 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_336 : BitVec 32 := 0#32
  let v885 : BitVec 1 := Scalar.cmpi .sgt v517 c0_i32_336
  let v886 : BitVec 32 := Scalar.extui v885
  let c0_i32_337 : BitVec 32 := 0#32
  let v887 : BitVec 1 := Scalar.cmpi .slt v517 c0_i32_337
  let v888 : BitVec 32 := Scalar.extui v887
  let v889 : BitVec 32 := Scalar.subi v886 v888
  let c8_i32_335 : BitVec 32 := 8#32
  let c0_i32_338 : BitVec 32 := 0#32
  let v890 : BitVec 1 := Scalar.cmpi .sgt c8_i32_335 c0_i32_338
  let v891 : BitVec 32 := Scalar.extui v890
  let c0_i32_339 : BitVec 32 := 0#32
  let v892 : BitVec 1 := Scalar.cmpi .slt c8_i32_335 c0_i32_339
  let v893 : BitVec 32 := Scalar.extui v892
  let v894 : BitVec 32 := Scalar.subi v891 v893
  let v895 : BitVec 1 := Scalar.cmpi .ne v889 v894
  let v896 : BitVec 32 := Scalar.remsi v517 c8_i32_335
  let c0_i32_340 : BitVec 32 := 0#32
  let v897 : BitVec 1 := Scalar.cmpi .ne v896 c0_i32_340
  let v898 : BitVec 1 := Scalar.andi v895 v897
  let v884 : BitVec 32 := Scalar.divsi v517 c8_i32_335
  let c1_i32_341 : BitVec 32 := 1#32
  let v899 : BitVec 32 := Scalar.subi v884 c1_i32_341
  let v900 : BitVec 32 := Scalar.select v898 v899 v884
  let v903 : Index := Scalar.indexCast v900
  ![v903.toNat]
def k0_off198 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c13_i32 : BitVec 32 := 13#32
  ![v519.toNat, 13]
def k0_off199 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c1664_i32_378 : BitVec 32 := 1664#32
  ![v519.toNat, 0, 1664]
def k0_off200 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1664_i32_379 : BitVec 32 := 1664#32
  ![v984.toNat, v986.toNat, 1664]
def k0_off201 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_347 : BitVec 32 := 0#32
  let v913 : BitVec 1 := Scalar.cmpi .sgt v517 c0_i32_347
  let v914 : BitVec 32 := Scalar.extui v913
  let c0_i32_348 : BitVec 32 := 0#32
  let v915 : BitVec 1 := Scalar.cmpi .slt v517 c0_i32_348
  let v916 : BitVec 32 := Scalar.extui v915
  let v917 : BitVec 32 := Scalar.subi v914 v916
  let c8_i32_346 : BitVec 32 := 8#32
  let c0_i32_349 : BitVec 32 := 0#32
  let v918 : BitVec 1 := Scalar.cmpi .sgt c8_i32_346 c0_i32_349
  let v919 : BitVec 32 := Scalar.extui v918
  let c0_i32_350 : BitVec 32 := 0#32
  let v920 : BitVec 1 := Scalar.cmpi .slt c8_i32_346 c0_i32_350
  let v921 : BitVec 32 := Scalar.extui v920
  let v922 : BitVec 32 := Scalar.subi v919 v921
  let v923 : BitVec 1 := Scalar.cmpi .ne v917 v922
  let v924 : BitVec 32 := Scalar.remsi v517 c8_i32_346
  let c0_i32_351 : BitVec 32 := 0#32
  let v925 : BitVec 1 := Scalar.cmpi .ne v924 c0_i32_351
  let v926 : BitVec 1 := Scalar.andi v923 v925
  let v912 : BitVec 32 := Scalar.divsi v517 c8_i32_346
  let c1_i32_352 : BitVec 32 := 1#32
  let v927 : BitVec 32 := Scalar.subi v912 c1_i32_352
  let v928 : BitVec 32 := Scalar.select v926 v927 v912
  let v931 : Index := Scalar.indexCast v928
  ![v931.toNat]
def k0_off202 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c14_i32 : BitVec 32 := 14#32
  ![v519.toNat, 14]
def k0_off203 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c1792_i32_378 : BitVec 32 := 1792#32
  ![v519.toNat, 0, 1792]
def k0_off204 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1792_i32_379 : BitVec 32 := 1792#32
  ![v984.toNat, v986.toNat, 1792]
def k0_off205 (i : grid0.Coords) : Fin 1 → Nat :=
  let arg0 : BitVec 32 := BitVec.ofNat 32 (i 0).val
  let c9_i32_189 : BitVec 32 := 9#32
  let v517 : BitVec 32 := Scalar.addi arg0 c9_i32_189
  let c0_i32_358 : BitVec 32 := 0#32
  let v941 : BitVec 1 := Scalar.cmpi .sgt v517 c0_i32_358
  let v942 : BitVec 32 := Scalar.extui v941
  let c0_i32_359 : BitVec 32 := 0#32
  let v943 : BitVec 1 := Scalar.cmpi .slt v517 c0_i32_359
  let v944 : BitVec 32 := Scalar.extui v943
  let v945 : BitVec 32 := Scalar.subi v942 v944
  let c8_i32_357 : BitVec 32 := 8#32
  let c0_i32_360 : BitVec 32 := 0#32
  let v946 : BitVec 1 := Scalar.cmpi .sgt c8_i32_357 c0_i32_360
  let v947 : BitVec 32 := Scalar.extui v946
  let c0_i32_361 : BitVec 32 := 0#32
  let v948 : BitVec 1 := Scalar.cmpi .slt c8_i32_357 c0_i32_361
  let v949 : BitVec 32 := Scalar.extui v948
  let v950 : BitVec 32 := Scalar.subi v947 v949
  let v951 : BitVec 1 := Scalar.cmpi .ne v945 v950
  let v952 : BitVec 32 := Scalar.remsi v517 c8_i32_357
  let c0_i32_362 : BitVec 32 := 0#32
  let v953 : BitVec 1 := Scalar.cmpi .ne v952 c0_i32_362
  let v954 : BitVec 1 := Scalar.andi v951 v953
  let v940 : BitVec 32 := Scalar.divsi v517 c8_i32_357
  let c1_i32_363 : BitVec 32 := 1#32
  let v955 : BitVec 32 := Scalar.subi v940 c1_i32_363
  let v956 : BitVec 32 := Scalar.select v954 v955 v940
  let v959 : Index := Scalar.indexCast v956
  ![v959.toNat]
def k0_off206 (i : grid0.Coords) : Fin 2 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c15_i32 : BitVec 32 := 15#32
  ![v519.toNat, 15]
def k0_off207 (i : grid0.Coords) : Fin 3 → Nat :=
  let arg0 : BitVec 32 := BitVec.ofNat 32 (i 0).val
  let c9_i32_190 : BitVec 32 := 9#32
  let v518 : BitVec 32 := Scalar.addi arg0 c9_i32_190
  let c10_i32_191 : BitVec 32 := 10#32
  let v519 : BitVec 32 := Scalar.remsi v518 c10_i32_191
  let c0_i32_377 : BitVec 32 := 0#32
  let c1920_i32_378 : BitVec 32 := 1920#32
  ![v519.toNat, 0, 1920]
def k0_off208 (i : grid0.Coords) : Fin 3 → Nat :=
  let arg0 : BitVec 32 := BitVec.ofNat 32 (i 0).val
  let c9_i32_189 : BitVec 32 := 9#32
  let v517 : BitVec 32 := Scalar.addi arg0 c9_i32_189
  let c0_i32_369 : BitVec 32 := 0#32
  let v969 : BitVec 1 := Scalar.cmpi .sgt v517 c0_i32_369
  let v970 : BitVec 32 := Scalar.extui v969
  let c0_i32_370 : BitVec 32 := 0#32
  let v971 : BitVec 1 := Scalar.cmpi .slt v517 c0_i32_370
  let v972 : BitVec 32 := Scalar.extui v971
  let v973 : BitVec 32 := Scalar.subi v970 v972
  let c8_i32_368 : BitVec 32 := 8#32
  let c0_i32_371 : BitVec 32 := 0#32
  let v974 : BitVec 1 := Scalar.cmpi .sgt c8_i32_368 c0_i32_371
  let v975 : BitVec 32 := Scalar.extui v974
  let c0_i32_372 : BitVec 32 := 0#32
  let v976 : BitVec 1 := Scalar.cmpi .slt c8_i32_368 c0_i32_372
  let v977 : BitVec 32 := Scalar.extui v976
  let v978 : BitVec 32 := Scalar.subi v975 v977
  let v979 : BitVec 1 := Scalar.cmpi .ne v973 v978
  let v980 : BitVec 32 := Scalar.remsi v517 c8_i32_368
  let c0_i32_373 : BitVec 32 := 0#32
  let v981 : BitVec 1 := Scalar.cmpi .ne v980 c0_i32_373
  let v982 : BitVec 1 := Scalar.andi v979 v981
  let v968 : BitVec 32 := Scalar.divsi v517 c8_i32_368
  let c1_i32_374 : BitVec 32 := 1#32
  let v983 : BitVec 32 := Scalar.subi v968 c1_i32_374
  let v984 : BitVec 32 := Scalar.select v982 v983 v968
  let c8_i32_375 : BitVec 32 := 8#32
  let v985 : BitVec 32 := Scalar.remsi v517 c8_i32_375
  let c256_i32_376 : BitVec 32 := 256#32
  let v986 : BitVec 32 := Scalar.muli v985 c256_i32_376
  let c1920_i32_379 : BitVec 32 := 1920#32
  ![v984.toNat, v986.toNat, 1920]
def k0_cond163 (i : grid0.Coords) : BitVec 1 :=
  let arg0 : BitVec 32 := BitVec.ofNat 32 (i 0).val
  let c8_i32_2 : BitVec 32 := 8#32
  let v9 : BitVec 1 := Scalar.cmpi .sge arg0 c8_i32_2
  let v10 : BitVec 32 := Scalar.extui v9
  let c0_i32_3 : BitVec 32 := 0#32
  let v11 : BitVec 1 := Scalar.cmpi .ne v10 c0_i32_3
  v11

def k0_off209 (i : grid0.Coords) : Fin 1 → Nat :=
  let arg0 : BitVec 32 := BitVec.ofNat 32 (i 0).val
  let c8_i32 : BitVec 32 := 8#32
  let v1 : BitVec 32 := Scalar.remsi arg0 c8_i32
  ![v1.toNat]
def k0_off210 (i : grid0.Coords) : Fin 3 → Nat :=
  let arg0 : BitVec 32 := BitVec.ofNat 32 (i 0).val
  let c8_i32_189 : BitVec 32 := 8#32
  let v517 : BitVec 32 := Scalar.subi arg0 c8_i32_189
  let c0_i32_191 : BitVec 32 := 0#32
  let v519 : BitVec 1 := Scalar.cmpi .sgt v517 c0_i32_191
  let v520 : BitVec 32 := Scalar.extui v519
  let c0_i32_192 : BitVec 32 := 0#32
  let v521 : BitVec 1 := Scalar.cmpi .slt v517 c0_i32_192
  let v522 : BitVec 32 := Scalar.extui v521
  let v523 : BitVec 32 := Scalar.subi v520 v522
  let c8_i32_190 : BitVec 32 := 8#32
  let c0_i32_193 : BitVec 32 := 0#32
  let v524 : BitVec 1 := Scalar.cmpi .sgt c8_i32_190 c0_i32_193
  let v525 : BitVec 32 := Scalar.extui v524
  let c0_i32_194 : BitVec 32 := 0#32
  let v526 : BitVec 1 := Scalar.cmpi .slt c8_i32_190 c0_i32_194
  let v527 : BitVec 32 := Scalar.extui v526
  let v528 : BitVec 32 := Scalar.subi v525 v527
  let v529 : BitVec 1 := Scalar.cmpi .ne v523 v528
  let v530 : BitVec 32 := Scalar.remsi v517 c8_i32_190
  let c0_i32_195 : BitVec 32 := 0#32
  let v531 : BitVec 1 := Scalar.cmpi .ne v530 c0_i32_195
  let v532 : BitVec 1 := Scalar.andi v529 v531
  let v518 : BitVec 32 := Scalar.divsi v517 c8_i32_190
  let c1_i32_196 : BitVec 32 := 1#32
  let v533 : BitVec 32 := Scalar.subi v518 c1_i32_196
  let v534 : BitVec 32 := Scalar.select v532 v533 v518
  let c8_i32_197 : BitVec 32 := 8#32
  let v535 : BitVec 32 := Scalar.remsi v517 c8_i32_197
  let c256_i32_198 : BitVec 32 := 256#32
  let v536 : BitVec 32 := Scalar.muli v535 c256_i32_198
  let c0_i32_199 : BitVec 32 := 0#32
  ![v534.toNat, v536.toNat, 0]
def k0_off211 (i : grid0.Coords) : Fin 3 → Nat :=
  let arg0 : BitVec 32 := BitVec.ofNat 32 (i 0).val
  let c8_i32 : BitVec 32 := 8#32
  let v1 : BitVec 32 := Scalar.remsi arg0 c8_i32
  let c0_i32_200 : BitVec 32 := 0#32
  let c0_i32_201 : BitVec 32 := 0#32
  ![v1.toNat, 0, 0]
def k0_off212 (i : grid0.Coords) : Fin 1 → Nat :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .slt arg0 c0_i32_6
  let v16 : BitVec 32 := Scalar.extui v15
  let v17 : BitVec 32 := Scalar.subi v14 v16
  let c8_i32_4 : BitVec 32 := 8#32
  let c0_i32_7 : BitVec 32 := 0#32
  let v18 : BitVec 1 := Scalar.cmpi .sgt c8_i32_4 c0_i32_7
  let v19 : BitVec 32 := Scalar.extui v18
  let c0_i32_8 : BitVec 32 := 0#32
  let v20 : BitVec 1 := Scalar.cmpi .slt c8_i32_4 c0_i32_8
  let v21 : BitVec 32 := Scalar.extui v20
  let v22 : BitVec 32 := Scalar.subi v19 v21
  let v23 : BitVec 1 := Scalar.cmpi .ne v17 v22
  let v24 : BitVec 32 := Scalar.remsi arg0 c8_i32_4
  let c0_i32_9 : BitVec 32 := 0#32
  let v25 : BitVec 1 := Scalar.cmpi .ne v24 c0_i32_9
  let v26 : BitVec 1 := Scalar.andi v23 v25
  let v12 : BitVec 32 := Scalar.divsi arg0 c8_i32_4
  let c1_i32 : BitVec 32 := 1#32
  let v27 : BitVec 32 := Scalar.subi v12 c1_i32
  let v28 : BitVec 32 := Scalar.select v26 v27 v12
  let v31 : Index := Scalar.indexCast v28
  ![v31.toNat]
def k0_off213 (i : grid0.Coords) : Fin 2 → Nat :=
  let arg0 : BitVec 32 := BitVec.ofNat 32 (i 0).val
  let c10_i32 : BitVec 32 := 10#32
  let v0 : BitVec 32 := Scalar.remsi arg0 c10_i32
  let c0_i32_198 : BitVec 32 := 0#32
  ![v0.toNat, 0]
def k0_off214 (i : grid0.Coords) : Fin 3 → Nat :=
  let arg0 : BitVec 32 := BitVec.ofNat 32 (i 0).val
  let c10_i32 : BitVec 32 := 10#32
  let v0 : BitVec 32 := Scalar.remsi arg0 c10_i32
  let c0_i32_199 : BitVec 32 := 0#32
  let c0_i32_200 : BitVec 32 := 0#32
  ![v0.toNat, 0, 0]
def k0_off215 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c0_i32_201 : BitVec 32 := 0#32
  ![v533.toNat, v535.toNat, 0]
def k0_off216 (i : grid0.Coords) : Fin 1 → Nat :=
  let arg0 : BitVec 32 := BitVec.ofNat 32 (i 0).val
  let c0_i32_14 : BitVec 32 := 0#32
  let v41 : BitVec 1 := Scalar.cmpi .sgt arg0 c0_i32_14
  let v42 : BitVec 32 := Scalar.extui v41
  let c0_i32_15 : BitVec 32 := 0#32
  let v43 : BitVec 1 := Scalar.cmpi .slt arg0 c0_i32_15
  let v44 : BitVec 32 := Scalar.extui v43
  let v45 : BitVec 32 := Scalar.subi v42 v44
  let c8_i32_13 : BitVec 32 := 8#32
  let c0_i32_16 : BitVec 32 := 0#32
  let v46 : BitVec 1 := Scalar.cmpi .sgt c8_i32_13 c0_i32_16
  let v47 : BitVec 32 := Scalar.extui v46
  let c0_i32_17 : BitVec 32 := 0#32
  let v48 : BitVec 1 := Scalar.cmpi .slt c8_i32_13 c0_i32_17
  let v49 : BitVec 32 := Scalar.extui v48
  let v50 : BitVec 32 := Scalar.subi v47 v49
  let v51 : BitVec 1 := Scalar.cmpi .ne v45 v50
  let v52 : BitVec 32 := Scalar.remsi arg0 c8_i32_13
  let c0_i32_18 : BitVec 32 := 0#32
  let v53 : BitVec 1 := Scalar.cmpi .ne v52 c0_i32_18
  let v54 : BitVec 1 := Scalar.andi v51 v53
  let v40 : BitVec 32 := Scalar.divsi arg0 c8_i32_13
  let c1_i32_19 : BitVec 32 := 1#32
  let v55 : BitVec 32 := Scalar.subi v40 c1_i32_19
  let v56 : BitVec 32 := Scalar.select v54 v55 v40
  let v59 : Index := Scalar.indexCast v56
  ![v59.toNat]
def k0_off217 (i : grid0.Coords) : Fin 2 → Nat :=
  let arg0 : BitVec 32 := BitVec.ofNat 32 (i 0).val
  let c10_i32 : BitVec 32 := 10#32
  let v0 : BitVec 32 := Scalar.remsi arg0 c10_i32
  let c1_i32_198 : BitVec 32 := 1#32
  ![v0.toNat, 1]
def k0_off218 (i : grid0.Coords) : Fin 3 → Nat :=
  let arg0 : BitVec 32 := BitVec.ofNat 32 (i 0).val
  let c10_i32 : BitVec 32 := 10#32
  let v0 : BitVec 32 := Scalar.remsi arg0 c10_i32
  let c0_i32_199 : BitVec 32 := 0#32
  let c128_i32_200 : BitVec 32 := 128#32
  ![v0.toNat, 0, 128]
def k0_off219 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c128_i32_201 : BitVec 32 := 128#32
  ![v533.toNat, v535.toNat, 128]
def k0_off220 (i : grid0.Coords) : Fin 1 → Nat :=
  let arg0 : BitVec 32 := BitVec.ofNat 32 (i 0).val
  let c0_i32_25 : BitVec 32 := 0#32
  let v69 : BitVec 1 := Scalar.cmpi .sgt arg0 c0_i32_25
  let v70 : BitVec 32 := Scalar.extui v69
  let c0_i32_26 : BitVec 32 := 0#32
  let v71 : BitVec 1 := Scalar.cmpi .slt arg0 c0_i32_26
  let v72 : BitVec 32 := Scalar.extui v71
  let v73 : BitVec 32 := Scalar.subi v70 v72
  let c8_i32_24 : BitVec 32 := 8#32
  let c0_i32_27 : BitVec 32 := 0#32
  let v74 : BitVec 1 := Scalar.cmpi .sgt c8_i32_24 c0_i32_27
  let v75 : BitVec 32 := Scalar.extui v74
  let c0_i32_28 : BitVec 32 := 0#32
  let v76 : BitVec 1 := Scalar.cmpi .slt c8_i32_24 c0_i32_28
  let v77 : BitVec 32 := Scalar.extui v76
  let v78 : BitVec 32 := Scalar.subi v75 v77
  let v79 : BitVec 1 := Scalar.cmpi .ne v73 v78
  let v80 : BitVec 32 := Scalar.remsi arg0 c8_i32_24
  let c0_i32_29 : BitVec 32 := 0#32
  let v81 : BitVec 1 := Scalar.cmpi .ne v80 c0_i32_29
  let v82 : BitVec 1 := Scalar.andi v79 v81
  let v68 : BitVec 32 := Scalar.divsi arg0 c8_i32_24
  let c1_i32_30 : BitVec 32 := 1#32
  let v83 : BitVec 32 := Scalar.subi v68 c1_i32_30
  let v84 : BitVec 32 := Scalar.select v82 v83 v68
  let v87 : Index := Scalar.indexCast v84
  ![v87.toNat]
def k0_off221 (i : grid0.Coords) : Fin 2 → Nat :=
  let arg0 : BitVec 32 := BitVec.ofNat 32 (i 0).val
  let c10_i32 : BitVec 32 := 10#32
  let v0 : BitVec 32 := Scalar.remsi arg0 c10_i32
  let c2_i32 : BitVec 32 := 2#32
  ![v0.toNat, 2]
def k0_off222 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c256_i32_199 : BitVec 32 := 256#32
  ![v0.toNat, 0, 256]
def k0_off223 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c256_i32_200 : BitVec 32 := 256#32
  ![v533.toNat, v535.toNat, 256]
def k0_off224 (i : grid0.Coords) : Fin 1 → Nat :=
  let arg0 : BitVec 32 := BitVec.ofNat 32 (i 0).val
  let c0_i32_36 : BitVec 32 := 0#32
  let v97 : BitVec 1 := Scalar.cmpi .sgt arg0 c0_i32_36
  let v98 : BitVec 32 := Scalar.extui v97
  let c0_i32_37 : BitVec 32 := 0#32
  let v99 : BitVec 1 := Scalar.cmpi .slt arg0 c0_i32_37
  let v100 : BitVec 32 := Scalar.extui v99
  let v101 : BitVec 32 := Scalar.subi v98 v100
  let c8_i32_35 : BitVec 32 := 8#32
  let c0_i32_38 : BitVec 32 := 0#32
  let v102 : BitVec 1 := Scalar.cmpi .sgt c8_i32_35 c0_i32_38
  let v103 : BitVec 32 := Scalar.extui v102
  let c0_i32_39 : BitVec 32 := 0#32
  let v104 : BitVec 1 := Scalar.cmpi .slt c8_i32_35 c0_i32_39
  let v105 : BitVec 32 := Scalar.extui v104
  let v106 : BitVec 32 := Scalar.subi v103 v105
  let v107 : BitVec 1 := Scalar.cmpi .ne v101 v106
  let v108 : BitVec 32 := Scalar.remsi arg0 c8_i32_35
  let c0_i32_40 : BitVec 32 := 0#32
  let v109 : BitVec 1 := Scalar.cmpi .ne v108 c0_i32_40
  let v110 : BitVec 1 := Scalar.andi v107 v109
  let v96 : BitVec 32 := Scalar.divsi arg0 c8_i32_35
  let c1_i32_41 : BitVec 32 := 1#32
  let v111 : BitVec 32 := Scalar.subi v96 c1_i32_41
  let v112 : BitVec 32 := Scalar.select v110 v111 v96
  let v115 : Index := Scalar.indexCast v112
  ![v115.toNat]
def k0_off225 (i : grid0.Coords) : Fin 2 → Nat :=
  let arg0 : BitVec 32 := BitVec.ofNat 32 (i 0).val
  let c10_i32 : BitVec 32 := 10#32
  let v0 : BitVec 32 := Scalar.remsi arg0 c10_i32
  let c3_i32 : BitVec 32 := 3#32
  ![v0.toNat, 3]
def k0_off226 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c384_i32_199 : BitVec 32 := 384#32
  ![v0.toNat, 0, 384]
def k0_off227 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c384_i32_200 : BitVec 32 := 384#32
  ![v533.toNat, v535.toNat, 384]
def k0_off228 (i : grid0.Coords) : Fin 1 → Nat :=
  let arg0 : BitVec 32 := BitVec.ofNat 32 (i 0).val
  let c0_i32_46 : BitVec 32 := 0#32
  let v125 : BitVec 1 := Scalar.cmpi .sgt arg0 c0_i32_46
  let v126 : BitVec 32 := Scalar.extui v125
  let c0_i32_47 : BitVec 32 := 0#32
  let v127 : BitVec 1 := Scalar.cmpi .slt arg0 c0_i32_47
  let v128 : BitVec 32 := Scalar.extui v127
  let v129 : BitVec 32 := Scalar.subi v126 v128
  let c8_i32_45 : BitVec 32 := 8#32
  let c0_i32_48 : BitVec 32 := 0#32
  let v130 : BitVec 1 := Scalar.cmpi .sgt c8_i32_45 c0_i32_48
  let v131 : BitVec 32 := Scalar.extui v130
  let c0_i32_49 : BitVec 32 := 0#32
  let v132 : BitVec 1 := Scalar.cmpi .slt c8_i32_45 c0_i32_49
  let v133 : BitVec 32 := Scalar.extui v132
  let v134 : BitVec 32 := Scalar.subi v131 v133
  let v135 : BitVec 1 := Scalar.cmpi .ne v129 v134
  let v136 : BitVec 32 := Scalar.remsi arg0 c8_i32_45
  let c0_i32_50 : BitVec 32 := 0#32
  let v137 : BitVec 1 := Scalar.cmpi .ne v136 c0_i32_50
  let v138 : BitVec 1 := Scalar.andi v135 v137
  let v124 : BitVec 32 := Scalar.divsi arg0 c8_i32_45
  let c1_i32_51 : BitVec 32 := 1#32
  let v139 : BitVec 32 := Scalar.subi v124 c1_i32_51
  let v140 : BitVec 32 := Scalar.select v138 v139 v124
  let v143 : Index := Scalar.indexCast v140
  ![v143.toNat]
def k0_off229 (i : grid0.Coords) : Fin 2 → Nat :=
  let arg0 : BitVec 32 := BitVec.ofNat 32 (i 0).val
  let c10_i32 : BitVec 32 := 10#32
  let v0 : BitVec 32 := Scalar.remsi arg0 c10_i32
  let c4_i32 : BitVec 32 := 4#32
  ![v0.toNat, 4]
def k0_off230 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c512_i32_199 : BitVec 32 := 512#32
  ![v0.toNat, 0, 512]
def k0_off231 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c512_i32_200 : BitVec 32 := 512#32
  ![v533.toNat, v535.toNat, 512]
def k0_off232 (i : grid0.Coords) : Fin 1 → Nat :=
  let arg0 : BitVec 32 := BitVec.ofNat 32 (i 0).val
  let c0_i32_56 : BitVec 32 := 0#32
  let v153 : BitVec 1 := Scalar.cmpi .sgt arg0 c0_i32_56
  let v154 : BitVec 32 := Scalar.extui v153
  let c0_i32_57 : BitVec 32 := 0#32
  let v155 : BitVec 1 := Scalar.cmpi .slt arg0 c0_i32_57
  let v156 : BitVec 32 := Scalar.extui v155
  let v157 : BitVec 32 := Scalar.subi v154 v156
  let c8_i32_55 : BitVec 32 := 8#32
  let c0_i32_58 : BitVec 32 := 0#32
  let v158 : BitVec 1 := Scalar.cmpi .sgt c8_i32_55 c0_i32_58
  let v159 : BitVec 32 := Scalar.extui v158
  let c0_i32_59 : BitVec 32 := 0#32
  let v160 : BitVec 1 := Scalar.cmpi .slt c8_i32_55 c0_i32_59
  let v161 : BitVec 32 := Scalar.extui v160
  let v162 : BitVec 32 := Scalar.subi v159 v161
  let v163 : BitVec 1 := Scalar.cmpi .ne v157 v162
  let v164 : BitVec 32 := Scalar.remsi arg0 c8_i32_55
  let c0_i32_60 : BitVec 32 := 0#32
  let v165 : BitVec 1 := Scalar.cmpi .ne v164 c0_i32_60
  let v166 : BitVec 1 := Scalar.andi v163 v165
  let v152 : BitVec 32 := Scalar.divsi arg0 c8_i32_55
  let c1_i32_61 : BitVec 32 := 1#32
  let v167 : BitVec 32 := Scalar.subi v152 c1_i32_61
  let v168 : BitVec 32 := Scalar.select v166 v167 v152
  let v171 : Index := Scalar.indexCast v168
  ![v171.toNat]
def k0_off233 (i : grid0.Coords) : Fin 2 → Nat :=
  let arg0 : BitVec 32 := BitVec.ofNat 32 (i 0).val
  let c10_i32 : BitVec 32 := 10#32
  let v0 : BitVec 32 := Scalar.remsi arg0 c10_i32
  let c5_i32 : BitVec 32 := 5#32
  ![v0.toNat, 5]
def k0_off234 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c640_i32_199 : BitVec 32 := 640#32
  ![v0.toNat, 0, 640]
def k0_off235 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c640_i32_200 : BitVec 32 := 640#32
  ![v533.toNat, v535.toNat, 640]
def k0_off236 (i : grid0.Coords) : Fin 1 → Nat :=
  let arg0 : BitVec 32 := BitVec.ofNat 32 (i 0).val
  let c0_i32_66 : BitVec 32 := 0#32
  let v181 : BitVec 1 := Scalar.cmpi .sgt arg0 c0_i32_66
  let v182 : BitVec 32 := Scalar.extui v181
  let c0_i32_67 : BitVec 32 := 0#32
  let v183 : BitVec 1 := Scalar.cmpi .slt arg0 c0_i32_67
  let v184 : BitVec 32 := Scalar.extui v183
  let v185 : BitVec 32 := Scalar.subi v182 v184
  let c8_i32_65 : BitVec 32 := 8#32
  let c0_i32_68 : BitVec 32 := 0#32
  let v186 : BitVec 1 := Scalar.cmpi .sgt c8_i32_65 c0_i32_68
  let v187 : BitVec 32 := Scalar.extui v186
  let c0_i32_69 : BitVec 32 := 0#32
  let v188 : BitVec 1 := Scalar.cmpi .slt c8_i32_65 c0_i32_69
  let v189 : BitVec 32 := Scalar.extui v188
  let v190 : BitVec 32 := Scalar.subi v187 v189
  let v191 : BitVec 1 := Scalar.cmpi .ne v185 v190
  let v192 : BitVec 32 := Scalar.remsi arg0 c8_i32_65
  let c0_i32_70 : BitVec 32 := 0#32
  let v193 : BitVec 1 := Scalar.cmpi .ne v192 c0_i32_70
  let v194 : BitVec 1 := Scalar.andi v191 v193
  let v180 : BitVec 32 := Scalar.divsi arg0 c8_i32_65
  let c1_i32_71 : BitVec 32 := 1#32
  let v195 : BitVec 32 := Scalar.subi v180 c1_i32_71
  let v196 : BitVec 32 := Scalar.select v194 v195 v180
  let v199 : Index := Scalar.indexCast v196
  ![v199.toNat]
def k0_off237 (i : grid0.Coords) : Fin 2 → Nat :=
  let arg0 : BitVec 32 := BitVec.ofNat 32 (i 0).val
  let c10_i32 : BitVec 32 := 10#32
  let v0 : BitVec 32 := Scalar.remsi arg0 c10_i32
  let c6_i32 : BitVec 32 := 6#32
  ![v0.toNat, 6]
def k0_off238 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c768_i32_199 : BitVec 32 := 768#32
  ![v0.toNat, 0, 768]
def k0_off239 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c768_i32_200 : BitVec 32 := 768#32
  ![v533.toNat, v535.toNat, 768]
def k0_off240 (i : grid0.Coords) : Fin 1 → Nat :=
  let arg0 : BitVec 32 := BitVec.ofNat 32 (i 0).val
  let c0_i32_76 : BitVec 32 := 0#32
  let v209 : BitVec 1 := Scalar.cmpi .sgt arg0 c0_i32_76
  let v210 : BitVec 32 := Scalar.extui v209
  let c0_i32_77 : BitVec 32 := 0#32
  let v211 : BitVec 1 := Scalar.cmpi .slt arg0 c0_i32_77
  let v212 : BitVec 32 := Scalar.extui v211
  let v213 : BitVec 32 := Scalar.subi v210 v212
  let c8_i32_75 : BitVec 32 := 8#32
  let c0_i32_78 : BitVec 32 := 0#32
  let v214 : BitVec 1 := Scalar.cmpi .sgt c8_i32_75 c0_i32_78
  let v215 : BitVec 32 := Scalar.extui v214
  let c0_i32_79 : BitVec 32 := 0#32
  let v216 : BitVec 1 := Scalar.cmpi .slt c8_i32_75 c0_i32_79
  let v217 : BitVec 32 := Scalar.extui v216
  let v218 : BitVec 32 := Scalar.subi v215 v217
  let v219 : BitVec 1 := Scalar.cmpi .ne v213 v218
  let v220 : BitVec 32 := Scalar.remsi arg0 c8_i32_75
  let c0_i32_80 : BitVec 32 := 0#32
  let v221 : BitVec 1 := Scalar.cmpi .ne v220 c0_i32_80
  let v222 : BitVec 1 := Scalar.andi v219 v221
  let v208 : BitVec 32 := Scalar.divsi arg0 c8_i32_75
  let c1_i32_81 : BitVec 32 := 1#32
  let v223 : BitVec 32 := Scalar.subi v208 c1_i32_81
  let v224 : BitVec 32 := Scalar.select v222 v223 v208
  let v227 : Index := Scalar.indexCast v224
  ![v227.toNat]
def k0_off241 (i : grid0.Coords) : Fin 2 → Nat :=
  let arg0 : BitVec 32 := BitVec.ofNat 32 (i 0).val
  let c10_i32 : BitVec 32 := 10#32
  let v0 : BitVec 32 := Scalar.remsi arg0 c10_i32
  let c7_i32 : BitVec 32 := 7#32
  ![v0.toNat, 7]
def k0_off242 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c896_i32_199 : BitVec 32 := 896#32
  ![v0.toNat, 0, 896]
def k0_off243 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c896_i32_200 : BitVec 32 := 896#32
  ![v533.toNat, v535.toNat, 896]
def k0_off244 (i : grid0.Coords) : Fin 1 → Nat :=
  let arg0 : BitVec 32 := BitVec.ofNat 32 (i 0).val
  let c0_i32_86 : BitVec 32 := 0#32
  let v237 : BitVec 1 := Scalar.cmpi .sgt arg0 c0_i32_86
  let v238 : BitVec 32 := Scalar.extui v237
  let c0_i32_87 : BitVec 32 := 0#32
  let v239 : BitVec 1 := Scalar.cmpi .slt arg0 c0_i32_87
  let v240 : BitVec 32 := Scalar.extui v239
  let v241 : BitVec 32 := Scalar.subi v238 v240
  let c8_i32_85 : BitVec 32 := 8#32
  let c0_i32_88 : BitVec 32 := 0#32
  let v242 : BitVec 1 := Scalar.cmpi .sgt c8_i32_85 c0_i32_88
  let v243 : BitVec 32 := Scalar.extui v242
  let c0_i32_89 : BitVec 32 := 0#32
  let v244 : BitVec 1 := Scalar.cmpi .slt c8_i32_85 c0_i32_89
  let v245 : BitVec 32 := Scalar.extui v244
  let v246 : BitVec 32 := Scalar.subi v243 v245
  let v247 : BitVec 1 := Scalar.cmpi .ne v241 v246
  let v248 : BitVec 32 := Scalar.remsi arg0 c8_i32_85
  let c0_i32_90 : BitVec 32 := 0#32
  let v249 : BitVec 1 := Scalar.cmpi .ne v248 c0_i32_90
  let v250 : BitVec 1 := Scalar.andi v247 v249
  let v236 : BitVec 32 := Scalar.divsi arg0 c8_i32_85
  let c1_i32_91 : BitVec 32 := 1#32
  let v251 : BitVec 32 := Scalar.subi v236 c1_i32_91
  let v252 : BitVec 32 := Scalar.select v250 v251 v236
  let v255 : Index := Scalar.indexCast v252
  ![v255.toNat]
def k0_off245 (i : grid0.Coords) : Fin 2 → Nat :=
  let arg0 : BitVec 32 := BitVec.ofNat 32 (i 0).val
  let c10_i32 : BitVec 32 := 10#32
  let v0 : BitVec 32 := Scalar.remsi arg0 c10_i32
  let c8_i32_198 : BitVec 32 := 8#32
  ![v0.toNat, 8]
def k0_off246 (i : grid0.Coords) : Fin 3 → Nat :=
  let arg0 : BitVec 32 := BitVec.ofNat 32 (i 0).val
  let c10_i32 : BitVec 32 := 10#32
  let v0 : BitVec 32 := Scalar.remsi arg0 c10_i32
  let c0_i32_199 : BitVec 32 := 0#32
  let c1024_i32_200 : BitVec 32 := 1024#32
  ![v0.toNat, 0, 1024]
def k0_off247 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1024_i32_201 : BitVec 32 := 1024#32
  ![v533.toNat, v535.toNat, 1024]
def k0_off248 (i : grid0.Coords) : Fin 1 → Nat :=
  let arg0 : BitVec 32 := BitVec.ofNat 32 (i 0).val
  let c0_i32_96 : BitVec 32 := 0#32
  let v265 : BitVec 1 := Scalar.cmpi .sgt arg0 c0_i32_96
  let v266 : BitVec 32 := Scalar.extui v265
  let c0_i32_97 : BitVec 32 := 0#32
  let v267 : BitVec 1 := Scalar.cmpi .slt arg0 c0_i32_97
  let v268 : BitVec 32 := Scalar.extui v267
  let v269 : BitVec 32 := Scalar.subi v266 v268
  let c8_i32_95 : BitVec 32 := 8#32
  let c0_i32_98 : BitVec 32 := 0#32
  let v270 : BitVec 1 := Scalar.cmpi .sgt c8_i32_95 c0_i32_98
  let v271 : BitVec 32 := Scalar.extui v270
  let c0_i32_99 : BitVec 32 := 0#32
  let v272 : BitVec 1 := Scalar.cmpi .slt c8_i32_95 c0_i32_99
  let v273 : BitVec 32 := Scalar.extui v272
  let v274 : BitVec 32 := Scalar.subi v271 v273
  let v275 : BitVec 1 := Scalar.cmpi .ne v269 v274
  let v276 : BitVec 32 := Scalar.remsi arg0 c8_i32_95
  let c0_i32_100 : BitVec 32 := 0#32
  let v277 : BitVec 1 := Scalar.cmpi .ne v276 c0_i32_100
  let v278 : BitVec 1 := Scalar.andi v275 v277
  let v264 : BitVec 32 := Scalar.divsi arg0 c8_i32_95
  let c1_i32_101 : BitVec 32 := 1#32
  let v279 : BitVec 32 := Scalar.subi v264 c1_i32_101
  let v280 : BitVec 32 := Scalar.select v278 v279 v264
  let v283 : Index := Scalar.indexCast v280
  ![v283.toNat]
def k0_off249 (i : grid0.Coords) : Fin 2 → Nat :=
  let arg0 : BitVec 32 := BitVec.ofNat 32 (i 0).val
  let c10_i32 : BitVec 32 := 10#32
  let v0 : BitVec 32 := Scalar.remsi arg0 c10_i32
  let c9_i32_198 : BitVec 32 := 9#32
  ![v0.toNat, 9]
def k0_off250 (i : grid0.Coords) : Fin 3 → Nat :=
  let arg0 : BitVec 32 := BitVec.ofNat 32 (i 0).val
  let c10_i32 : BitVec 32 := 10#32
  let v0 : BitVec 32 := Scalar.remsi arg0 c10_i32
  let c0_i32_199 : BitVec 32 := 0#32
  let c1152_i32_200 : BitVec 32 := 1152#32
  ![v0.toNat, 0, 1152]
def k0_off251 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1152_i32_201 : BitVec 32 := 1152#32
  ![v533.toNat, v535.toNat, 1152]
def k0_off252 (i : grid0.Coords) : Fin 1 → Nat :=
  let arg0 : BitVec 32 := BitVec.ofNat 32 (i 0).val
  let c0_i32_106 : BitVec 32 := 0#32
  let v293 : BitVec 1 := Scalar.cmpi .sgt arg0 c0_i32_106
  let v294 : BitVec 32 := Scalar.extui v293
  let c0_i32_107 : BitVec 32 := 0#32
  let v295 : BitVec 1 := Scalar.cmpi .slt arg0 c0_i32_107
  let v296 : BitVec 32 := Scalar.extui v295
  let v297 : BitVec 32 := Scalar.subi v294 v296
  let c8_i32_105 : BitVec 32 := 8#32
  let c0_i32_108 : BitVec 32 := 0#32
  let v298 : BitVec 1 := Scalar.cmpi .sgt c8_i32_105 c0_i32_108
  let v299 : BitVec 32 := Scalar.extui v298
  let c0_i32_109 : BitVec 32 := 0#32
  let v300 : BitVec 1 := Scalar.cmpi .slt c8_i32_105 c0_i32_109
  let v301 : BitVec 32 := Scalar.extui v300
  let v302 : BitVec 32 := Scalar.subi v299 v301
  let v303 : BitVec 1 := Scalar.cmpi .ne v297 v302
  let v304 : BitVec 32 := Scalar.remsi arg0 c8_i32_105
  let c0_i32_110 : BitVec 32 := 0#32
  let v305 : BitVec 1 := Scalar.cmpi .ne v304 c0_i32_110
  let v306 : BitVec 1 := Scalar.andi v303 v305
  let v292 : BitVec 32 := Scalar.divsi arg0 c8_i32_105
  let c1_i32_111 : BitVec 32 := 1#32
  let v307 : BitVec 32 := Scalar.subi v292 c1_i32_111
  let v308 : BitVec 32 := Scalar.select v306 v307 v292
  let v311 : Index := Scalar.indexCast v308
  ![v311.toNat]
def k0_off253 (i : grid0.Coords) : Fin 2 → Nat :=
  let arg0 : BitVec 32 := BitVec.ofNat 32 (i 0).val
  let c10_i32 : BitVec 32 := 10#32
  let v0 : BitVec 32 := Scalar.remsi arg0 c10_i32
  let c10_i32_198 : BitVec 32 := 10#32
  ![v0.toNat, 10]
def k0_off254 (i : grid0.Coords) : Fin 3 → Nat :=
  let arg0 : BitVec 32 := BitVec.ofNat 32 (i 0).val
  let c10_i32 : BitVec 32 := 10#32
  let v0 : BitVec 32 := Scalar.remsi arg0 c10_i32
  let c0_i32_199 : BitVec 32 := 0#32
  let c1280_i32_200 : BitVec 32 := 1280#32
  ![v0.toNat, 0, 1280]
def k0_off255 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1280_i32_201 : BitVec 32 := 1280#32
  ![v533.toNat, v535.toNat, 1280]
def k0_off256 (i : grid0.Coords) : Fin 1 → Nat :=
  let arg0 : BitVec 32 := BitVec.ofNat 32 (i 0).val
  let c0_i32_116 : BitVec 32 := 0#32
  let v321 : BitVec 1 := Scalar.cmpi .sgt arg0 c0_i32_116
  let v322 : BitVec 32 := Scalar.extui v321
  let c0_i32_117 : BitVec 32 := 0#32
  let v323 : BitVec 1 := Scalar.cmpi .slt arg0 c0_i32_117
  let v324 : BitVec 32 := Scalar.extui v323
  let v325 : BitVec 32 := Scalar.subi v322 v324
  let c8_i32_115 : BitVec 32 := 8#32
  let c0_i32_118 : BitVec 32 := 0#32
  let v326 : BitVec 1 := Scalar.cmpi .sgt c8_i32_115 c0_i32_118
  let v327 : BitVec 32 := Scalar.extui v326
  let c0_i32_119 : BitVec 32 := 0#32
  let v328 : BitVec 1 := Scalar.cmpi .slt c8_i32_115 c0_i32_119
  let v329 : BitVec 32 := Scalar.extui v328
  let v330 : BitVec 32 := Scalar.subi v327 v329
  let v331 : BitVec 1 := Scalar.cmpi .ne v325 v330
  let v332 : BitVec 32 := Scalar.remsi arg0 c8_i32_115
  let c0_i32_120 : BitVec 32 := 0#32
  let v333 : BitVec 1 := Scalar.cmpi .ne v332 c0_i32_120
  let v334 : BitVec 1 := Scalar.andi v331 v333
  let v320 : BitVec 32 := Scalar.divsi arg0 c8_i32_115
  let c1_i32_121 : BitVec 32 := 1#32
  let v335 : BitVec 32 := Scalar.subi v320 c1_i32_121
  let v336 : BitVec 32 := Scalar.select v334 v335 v320
  let v339 : Index := Scalar.indexCast v336
  ![v339.toNat]
def k0_off257 (i : grid0.Coords) : Fin 2 → Nat :=
  let arg0 : BitVec 32 := BitVec.ofNat 32 (i 0).val
  let c10_i32 : BitVec 32 := 10#32
  let v0 : BitVec 32 := Scalar.remsi arg0 c10_i32
  let c11_i32 : BitVec 32 := 11#32
  ![v0.toNat, 11]
def k0_off258 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c1408_i32_199 : BitVec 32 := 1408#32
  ![v0.toNat, 0, 1408]
def k0_off259 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1408_i32_200 : BitVec 32 := 1408#32
  ![v533.toNat, v535.toNat, 1408]
def k0_off260 (i : grid0.Coords) : Fin 1 → Nat :=
  let arg0 : BitVec 32 := BitVec.ofNat 32 (i 0).val
  let c0_i32_126 : BitVec 32 := 0#32
  let v349 : BitVec 1 := Scalar.cmpi .sgt arg0 c0_i32_126
  let v350 : BitVec 32 := Scalar.extui v349
  let c0_i32_127 : BitVec 32 := 0#32
  let v351 : BitVec 1 := Scalar.cmpi .slt arg0 c0_i32_127
  let v352 : BitVec 32 := Scalar.extui v351
  let v353 : BitVec 32 := Scalar.subi v350 v352
  let c8_i32_125 : BitVec 32 := 8#32
  let c0_i32_128 : BitVec 32 := 0#32
  let v354 : BitVec 1 := Scalar.cmpi .sgt c8_i32_125 c0_i32_128
  let v355 : BitVec 32 := Scalar.extui v354
  let c0_i32_129 : BitVec 32 := 0#32
  let v356 : BitVec 1 := Scalar.cmpi .slt c8_i32_125 c0_i32_129
  let v357 : BitVec 32 := Scalar.extui v356
  let v358 : BitVec 32 := Scalar.subi v355 v357
  let v359 : BitVec 1 := Scalar.cmpi .ne v353 v358
  let v360 : BitVec 32 := Scalar.remsi arg0 c8_i32_125
  let c0_i32_130 : BitVec 32 := 0#32
  let v361 : BitVec 1 := Scalar.cmpi .ne v360 c0_i32_130
  let v362 : BitVec 1 := Scalar.andi v359 v361
  let v348 : BitVec 32 := Scalar.divsi arg0 c8_i32_125
  let c1_i32_131 : BitVec 32 := 1#32
  let v363 : BitVec 32 := Scalar.subi v348 c1_i32_131
  let v364 : BitVec 32 := Scalar.select v362 v363 v348
  let v367 : Index := Scalar.indexCast v364
  ![v367.toNat]
def k0_off261 (i : grid0.Coords) : Fin 2 → Nat :=
  let arg0 : BitVec 32 := BitVec.ofNat 32 (i 0).val
  let c10_i32 : BitVec 32 := 10#32
  let v0 : BitVec 32 := Scalar.remsi arg0 c10_i32
  let c12_i32 : BitVec 32 := 12#32
  ![v0.toNat, 12]
def k0_off262 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c1536_i32_199 : BitVec 32 := 1536#32
  ![v0.toNat, 0, 1536]
def k0_off263 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1536_i32_200 : BitVec 32 := 1536#32
  ![v533.toNat, v535.toNat, 1536]
def k0_off264 (i : grid0.Coords) : Fin 1 → Nat :=
  let arg0 : BitVec 32 := BitVec.ofNat 32 (i 0).val
  let c0_i32_136 : BitVec 32 := 0#32
  let v377 : BitVec 1 := Scalar.cmpi .sgt arg0 c0_i32_136
  let v378 : BitVec 32 := Scalar.extui v377
  let c0_i32_137 : BitVec 32 := 0#32
  let v379 : BitVec 1 := Scalar.cmpi .slt arg0 c0_i32_137
  let v380 : BitVec 32 := Scalar.extui v379
  let v381 : BitVec 32 := Scalar.subi v378 v380
  let c8_i32_135 : BitVec 32 := 8#32
  let c0_i32_138 : BitVec 32 := 0#32
  let v382 : BitVec 1 := Scalar.cmpi .sgt c8_i32_135 c0_i32_138
  let v383 : BitVec 32 := Scalar.extui v382
  let c0_i32_139 : BitVec 32 := 0#32
  let v384 : BitVec 1 := Scalar.cmpi .slt c8_i32_135 c0_i32_139
  let v385 : BitVec 32 := Scalar.extui v384
  let v386 : BitVec 32 := Scalar.subi v383 v385
  let v387 : BitVec 1 := Scalar.cmpi .ne v381 v386
  let v388 : BitVec 32 := Scalar.remsi arg0 c8_i32_135
  let c0_i32_140 : BitVec 32 := 0#32
  let v389 : BitVec 1 := Scalar.cmpi .ne v388 c0_i32_140
  let v390 : BitVec 1 := Scalar.andi v387 v389
  let v376 : BitVec 32 := Scalar.divsi arg0 c8_i32_135
  let c1_i32_141 : BitVec 32 := 1#32
  let v391 : BitVec 32 := Scalar.subi v376 c1_i32_141
  let v392 : BitVec 32 := Scalar.select v390 v391 v376
  let v395 : Index := Scalar.indexCast v392
  ![v395.toNat]
def k0_off265 (i : grid0.Coords) : Fin 2 → Nat :=
  let arg0 : BitVec 32 := BitVec.ofNat 32 (i 0).val
  let c10_i32 : BitVec 32 := 10#32
  let v0 : BitVec 32 := Scalar.remsi arg0 c10_i32
  let c13_i32 : BitVec 32 := 13#32
  ![v0.toNat, 13]
def k0_off266 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c1664_i32_199 : BitVec 32 := 1664#32
  ![v0.toNat, 0, 1664]
def k0_off267 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1664_i32_200 : BitVec 32 := 1664#32
  ![v533.toNat, v535.toNat, 1664]
def k0_off268 (i : grid0.Coords) : Fin 1 → Nat :=
  let arg0 : BitVec 32 := BitVec.ofNat 32 (i 0).val
  let c0_i32_146 : BitVec 32 := 0#32
  let v405 : BitVec 1 := Scalar.cmpi .sgt arg0 c0_i32_146
  let v406 : BitVec 32 := Scalar.extui v405
  let c0_i32_147 : BitVec 32 := 0#32
  let v407 : BitVec 1 := Scalar.cmpi .slt arg0 c0_i32_147
  let v408 : BitVec 32 := Scalar.extui v407
  let v409 : BitVec 32 := Scalar.subi v406 v408
  let c8_i32_145 : BitVec 32 := 8#32
  let c0_i32_148 : BitVec 32 := 0#32
  let v410 : BitVec 1 := Scalar.cmpi .sgt c8_i32_145 c0_i32_148
  let v411 : BitVec 32 := Scalar.extui v410
  let c0_i32_149 : BitVec 32 := 0#32
  let v412 : BitVec 1 := Scalar.cmpi .slt c8_i32_145 c0_i32_149
  let v413 : BitVec 32 := Scalar.extui v412
  let v414 : BitVec 32 := Scalar.subi v411 v413
  let v415 : BitVec 1 := Scalar.cmpi .ne v409 v414
  let v416 : BitVec 32 := Scalar.remsi arg0 c8_i32_145
  let c0_i32_150 : BitVec 32 := 0#32
  let v417 : BitVec 1 := Scalar.cmpi .ne v416 c0_i32_150
  let v418 : BitVec 1 := Scalar.andi v415 v417
  let v404 : BitVec 32 := Scalar.divsi arg0 c8_i32_145
  let c1_i32_151 : BitVec 32 := 1#32
  let v419 : BitVec 32 := Scalar.subi v404 c1_i32_151
  let v420 : BitVec 32 := Scalar.select v418 v419 v404
  let v423 : Index := Scalar.indexCast v420
  ![v423.toNat]
def k0_off269 (i : grid0.Coords) : Fin 2 → Nat :=
  let arg0 : BitVec 32 := BitVec.ofNat 32 (i 0).val
  let c10_i32 : BitVec 32 := 10#32
  let v0 : BitVec 32 := Scalar.remsi arg0 c10_i32
  let c14_i32 : BitVec 32 := 14#32
  ![v0.toNat, 14]
def k0_off270 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c1792_i32_199 : BitVec 32 := 1792#32
  ![v0.toNat, 0, 1792]
def k0_off271 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1792_i32_200 : BitVec 32 := 1792#32
  ![v533.toNat, v535.toNat, 1792]
def k0_off272 (i : grid0.Coords) : Fin 1 → Nat :=
  let arg0 : BitVec 32 := BitVec.ofNat 32 (i 0).val
  let c0_i32_156 : BitVec 32 := 0#32
  let v433 : BitVec 1 := Scalar.cmpi .sgt arg0 c0_i32_156
  let v434 : BitVec 32 := Scalar.extui v433
  let c0_i32_157 : BitVec 32 := 0#32
  let v435 : BitVec 1 := Scalar.cmpi .slt arg0 c0_i32_157
  let v436 : BitVec 32 := Scalar.extui v435
  let v437 : BitVec 32 := Scalar.subi v434 v436
  let c8_i32_155 : BitVec 32 := 8#32
  let c0_i32_158 : BitVec 32 := 0#32
  let v438 : BitVec 1 := Scalar.cmpi .sgt c8_i32_155 c0_i32_158
  let v439 : BitVec 32 := Scalar.extui v438
  let c0_i32_159 : BitVec 32 := 0#32
  let v440 : BitVec 1 := Scalar.cmpi .slt c8_i32_155 c0_i32_159
  let v441 : BitVec 32 := Scalar.extui v440
  let v442 : BitVec 32 := Scalar.subi v439 v441
  let v443 : BitVec 1 := Scalar.cmpi .ne v437 v442
  let v444 : BitVec 32 := Scalar.remsi arg0 c8_i32_155
  let c0_i32_160 : BitVec 32 := 0#32
  let v445 : BitVec 1 := Scalar.cmpi .ne v444 c0_i32_160
  let v446 : BitVec 1 := Scalar.andi v443 v445
  let v432 : BitVec 32 := Scalar.divsi arg0 c8_i32_155
  let c1_i32_161 : BitVec 32 := 1#32
  let v447 : BitVec 32 := Scalar.subi v432 c1_i32_161
  let v448 : BitVec 32 := Scalar.select v446 v447 v432
  let v451 : Index := Scalar.indexCast v448
  ![v451.toNat]
def k0_off273 (i : grid0.Coords) : Fin 2 → Nat :=
  let arg0 : BitVec 32 := BitVec.ofNat 32 (i 0).val
  let c10_i32 : BitVec 32 := 10#32
  let v0 : BitVec 32 := Scalar.remsi arg0 c10_i32
  let c15_i32 : BitVec 32 := 15#32
  ![v0.toNat, 15]
def k0_off274 (i : grid0.Coords) : Fin 3 → Nat :=
  let arg0 : BitVec 32 := BitVec.ofNat 32 (i 0).val
  let c10_i32 : BitVec 32 := 10#32
  let v0 : BitVec 32 := Scalar.remsi arg0 c10_i32
  let c0_i32_198 : BitVec 32 := 0#32
  let c1920_i32_199 : BitVec 32 := 1920#32
  ![v0.toNat, 0, 1920]
def k0_off275 (i : grid0.Coords) : Fin 3 → Nat :=
  let arg0 : BitVec 32 := BitVec.ofNat 32 (i 0).val
  let c0_i32_190 : BitVec 32 := 0#32
  let v518 : BitVec 1 := Scalar.cmpi .sgt arg0 c0_i32_190
  let v519 : BitVec 32 := Scalar.extui v518
  let c0_i32_191 : BitVec 32 := 0#32
  let v520 : BitVec 1 := Scalar.cmpi .slt arg0 c0_i32_191
  let v521 : BitVec 32 := Scalar.extui v520
  let v522 : BitVec 32 := Scalar.subi v519 v521
  let c8_i32_189 : BitVec 32 := 8#32
  let c0_i32_192 : BitVec 32 := 0#32
  let v523 : BitVec 1 := Scalar.cmpi .sgt c8_i32_189 c0_i32_192
  let v524 : BitVec 32 := Scalar.extui v523
  let c0_i32_193 : BitVec 32 := 0#32
  let v525 : BitVec 1 := Scalar.cmpi .slt c8_i32_189 c0_i32_193
  let v526 : BitVec 32 := Scalar.extui v525
  let v527 : BitVec 32 := Scalar.subi v524 v526
  let v528 : BitVec 1 := Scalar.cmpi .ne v522 v527
  let v529 : BitVec 32 := Scalar.remsi arg0 c8_i32_189
  let c0_i32_194 : BitVec 32 := 0#32
  let v530 : BitVec 1 := Scalar.cmpi .ne v529 c0_i32_194
  let v531 : BitVec 1 := Scalar.andi v528 v530
  let v517 : BitVec 32 := Scalar.divsi arg0 c8_i32_189
  let c1_i32_195 : BitVec 32 := 1#32
  let v532 : BitVec 32 := Scalar.subi v517 c1_i32_195
  let v533 : BitVec 32 := Scalar.select v531 v532 v517
  let c8_i32_196 : BitVec 32 := 8#32
  let v534 : BitVec 32 := Scalar.remsi arg0 c8_i32_196
  let c256_i32_197 : BitVec 32 := 256#32
  let v535 : BitVec 32 := Scalar.muli v534 c256_i32_197
  let c1920_i32_200 : BitVec 32 := 1920#32
  ![v533.toNat, v535.toNat, 1920]
def k0_off276 (i : grid0.Coords) : Fin 1 → Nat :=
  let arg0 : BitVec 32 := BitVec.ofNat 32 (i 0).val
  let c0_i32_166 : BitVec 32 := 0#32
  let v461 : BitVec 1 := Scalar.cmpi .sgt arg0 c0_i32_166
  let v462 : BitVec 32 := Scalar.extui v461
  let c0_i32_167 : BitVec 32 := 0#32
  let v463 : BitVec 1 := Scalar.cmpi .slt arg0 c0_i32_167
  let v464 : BitVec 32 := Scalar.extui v463
  let v465 : BitVec 32 := Scalar.subi v462 v464
  let c8_i32_165 : BitVec 32 := 8#32
  let c0_i32_168 : BitVec 32 := 0#32
  let v466 : BitVec 1 := Scalar.cmpi .sgt c8_i32_165 c0_i32_168
  let v467 : BitVec 32 := Scalar.extui v466
  let c0_i32_169 : BitVec 32 := 0#32
  let v468 : BitVec 1 := Scalar.cmpi .slt c8_i32_165 c0_i32_169
  let v469 : BitVec 32 := Scalar.extui v468
  let v470 : BitVec 32 := Scalar.subi v467 v469
  let v471 : BitVec 1 := Scalar.cmpi .ne v465 v470
  let v472 : BitVec 32 := Scalar.remsi arg0 c8_i32_165
  let c0_i32_170 : BitVec 32 := 0#32
  let v473 : BitVec 1 := Scalar.cmpi .ne v472 c0_i32_170
  let v474 : BitVec 1 := Scalar.andi v471 v473
  let v460 : BitVec 32 := Scalar.divsi arg0 c8_i32_165
  let c1_i32_171 : BitVec 32 := 1#32
  let v475 : BitVec 32 := Scalar.subi v460 c1_i32_171
  let v476 : BitVec 32 := Scalar.select v474 v475 v460
  let v478 : Index := Scalar.indexCast v476
  ![v478.toNat]
def k0_off277 (i : grid0.Coords) : Fin 3 → Nat :=
  let arg0 : BitVec 32 := BitVec.ofNat 32 (i 0).val
  let c8_i32 : BitVec 32 := 8#32
  let v1 : BitVec 32 := Scalar.remsi arg0 c8_i32
  let v518 : Index := Scalar.indexCast v1
  let c0 : Index := 0#32
  let c0_189 : Index := 0#32
  ![v518.toNat, 0, 0]
def k0_off278 (i : grid0.Coords) : Fin 3 → Nat :=
  let arg0 : BitVec 32 := BitVec.ofNat 32 (i 0).val
  let c10_i32 : BitVec 32 := 10#32
  let v0 : BitVec 32 := Scalar.remsi arg0 c10_i32
  let v517 : Index := Scalar.indexCast v0
  let c0 : Index := 0#32
  let c0_189 : Index := 0#32
  ![v517.toNat, 0, 0]
def k0_off279 (i : grid0.Coords) : Fin 3 → Nat :=
  let arg0 : BitVec 32 := BitVec.ofNat 32 (i 0).val
  let c8_i32 : BitVec 32 := 8#32
  let v1 : BitVec 32 := Scalar.remsi arg0 c8_i32
  let v552 : Index := Scalar.indexCast v1
  let c0_198 : Index := 0#32
  let c0_199 : Index := 0#32
  ![v552.toNat, 0, 0]
def k0_off280 (i : grid0.Coords) : Fin 1 → Nat :=
  let arg0 : BitVec 32 := BitVec.ofNat 32 (i 0).val
  let c8_i32 : BitVec 32 := 8#32
  let v1 : BitVec 32 := Scalar.remsi arg0 c8_i32
  ![v1.toNat]
def k0_off281 (i : grid0.Coords) : Fin 3 → Nat :=
  let arg0 : BitVec 32 := BitVec.ofNat 32 (i 0).val
  let c0_i32_177 : BitVec 32 := 0#32
  let v490 : BitVec 1 := Scalar.cmpi .sgt arg0 c0_i32_177
  let v491 : BitVec 32 := Scalar.extui v490
  let c0_i32_178 : BitVec 32 := 0#32
  let v492 : BitVec 1 := Scalar.cmpi .slt arg0 c0_i32_178
  let v493 : BitVec 32 := Scalar.extui v492
  let v494 : BitVec 32 := Scalar.subi v491 v493
  let c8_i32_176 : BitVec 32 := 8#32
  let c0_i32_179 : BitVec 32 := 0#32
  let v495 : BitVec 1 := Scalar.cmpi .sgt c8_i32_176 c0_i32_179
  let v496 : BitVec 32 := Scalar.extui v495
  let c0_i32_180 : BitVec 32 := 0#32
  let v497 : BitVec 1 := Scalar.cmpi .slt c8_i32_176 c0_i32_180
  let v498 : BitVec 32 := Scalar.extui v497
  let v499 : BitVec 32 := Scalar.subi v496 v498
  let v500 : BitVec 1 := Scalar.cmpi .ne v494 v499
  let v501 : BitVec 32 := Scalar.remsi arg0 c8_i32_176
  let c0_i32_181 : BitVec 32 := 0#32
  let v502 : BitVec 1 := Scalar.cmpi .ne v501 c0_i32_181
  let v503 : BitVec 1 := Scalar.andi v500 v502
  let v489 : BitVec 32 := Scalar.divsi arg0 c8_i32_176
  let c1_i32_182 : BitVec 32 := 1#32
  let v504 : BitVec 32 := Scalar.subi v489 c1_i32_182
  let v505 : BitVec 32 := Scalar.select v503 v504 v489
  let c8_i32_183 : BitVec 32 := 8#32
  let v506 : BitVec 32 := Scalar.remsi arg0 c8_i32_183
  let c256_i32_184 : BitVec 32 := 256#32
  let v507 : BitVec 32 := Scalar.muli v506 c256_i32_184
  let c0_i32_185 : BitVec 32 := 0#32
  ![v505.toNat, v507.toNat, 0]
def k0_off282 (i : grid0.Coords) : Fin 3 → Nat :=
  let arg0 : BitVec 32 := BitVec.ofNat 32 (i 0).val
  let c8_i32 : BitVec 32 := 8#32
  let v1 : BitVec 32 := Scalar.remsi arg0 c8_i32
  let c0_i32_186 : BitVec 32 := 0#32
  let c0_i32_187 : BitVec 32 := 0#32
  ![v1.toNat, 0, 0]
def k0_cond182 (i : grid0.Coords) : BitVec 1 :=
  let arg0 : BitVec 32 := BitVec.ofNat 32 (i 0).val
  let c127_i32 : BitVec 32 := 127#32
  let v514 : BitVec 1 := Scalar.cmpi .eq arg0 c127_i32
  let v515 : BitVec 32 := Scalar.extui v514
  let c0_i32_188 : BitVec 32 := 0#32
  let v516 : BitVec 1 := Scalar.cmpi .ne v515 c0_i32_188
  v516

def k0_off283 (i : grid0.Coords) (c0_i32_190 : BitVec 32) : Fin 1 → Nat :=
  let arg0 : BitVec 32 := BitVec.ofNat 32 (i 0).val
  let v518 : BitVec 32 := Scalar.subi arg0 c0_i32_190
  let c8_i32_191 : BitVec 32 := 8#32
  let v519 : BitVec 32 := Scalar.remsi v518 c8_i32_191
  ![v519.toNat]
def k0_off284 (i : grid0.Coords) (c0_i32_189 : BitVec 32) : Fin 3 → Nat :=
  let arg0 : BitVec 32 := BitVec.ofNat 32 (i 0).val
  let v517 : BitVec 32 := Scalar.subi arg0 c0_i32_189
  let c0_i32_193 : BitVec 32 := 0#32
  let v521 : BitVec 1 := Scalar.cmpi .sgt v517 c0_i32_193
  let v522 : BitVec 32 := Scalar.extui v521
  let c0_i32_194 : BitVec 32 := 0#32
  let v523 : BitVec 1 := Scalar.cmpi .slt v517 c0_i32_194
  let v524 : BitVec 32 := Scalar.extui v523
  let v525 : BitVec 32 := Scalar.subi v522 v524
  let c8_i32_192 : BitVec 32 := 8#32
  let c0_i32_195 : BitVec 32 := 0#32
  let v526 : BitVec 1 := Scalar.cmpi .sgt c8_i32_192 c0_i32_195
  let v527 : BitVec 32 := Scalar.extui v526
  let c0_i32_196 : BitVec 32 := 0#32
  let v528 : BitVec 1 := Scalar.cmpi .slt c8_i32_192 c0_i32_196
  let v529 : BitVec 32 := Scalar.extui v528
  let v530 : BitVec 32 := Scalar.subi v527 v529
  let v531 : BitVec 1 := Scalar.cmpi .ne v525 v530
  let v532 : BitVec 32 := Scalar.remsi v517 c8_i32_192
  let c0_i32_197 : BitVec 32 := 0#32
  let v533 : BitVec 1 := Scalar.cmpi .ne v532 c0_i32_197
  let v534 : BitVec 1 := Scalar.andi v531 v533
  let v520 : BitVec 32 := Scalar.divsi v517 c8_i32_192
  let c1_i32_198 : BitVec 32 := 1#32
  let v535 : BitVec 32 := Scalar.subi v520 c1_i32_198
  let v536 : BitVec 32 := Scalar.select v534 v535 v520
  let c8_i32_199 : BitVec 32 := 8#32
  let v537 : BitVec 32 := Scalar.remsi v517 c8_i32_199
  let c256_i32_200 : BitVec 32 := 256#32
  let v538 : BitVec 32 := Scalar.muli v537 c256_i32_200
  let c0_i32_201 : BitVec 32 := 0#32
  ![v536.toNat, v538.toNat, 0]
def k0_off285 (i : grid0.Coords) (c0_i32_190 : BitVec 32) : Fin 3 → Nat :=
  let arg0 : BitVec 32 := BitVec.ofNat 32 (i 0).val
  let v518 : BitVec 32 := Scalar.subi arg0 c0_i32_190
  let c8_i32_191 : BitVec 32 := 8#32
  let v519 : BitVec 32 := Scalar.remsi v518 c8_i32_191
  let c0_i32_202 : BitVec 32 := 0#32
  let c0_i32_203 : BitVec 32 := 0#32
  ![v519.toNat, 0, 0]
-- ==== ReferenceIdeal.lean ====
abbrev S16x2048x2048 : Shape := ⟨3, ![16, 2048, 2048]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩
abbrev S16x1x2048 : Shape := ⟨3, ![16, 1, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16, .i32⟩
  | .hbm, ⟨2, _⟩ => ⟨S16, .i32⟩
  | .hbm, ⟨3, _⟩ => ⟨S2048, .i32⟩
  | .hbm, ⟨4, _⟩ => ⟨S1x2048, .i32⟩
  | .hbm, ⟨5, _⟩ => ⟨S16x1, .i32⟩
  | .hbm, ⟨6, _⟩ => ⟨S16x2048, .i32⟩
  | .hbm, ⟨7, _⟩ => ⟨S16x2048, .i32⟩
  | .hbm, ⟨8, _⟩ => ⟨S16x2048, .i1⟩
  | .hbm, ⟨9, _⟩ => ⟨S2048, .i32⟩
  | .hbm, ⟨10, _⟩ => ⟨S1x2048, .i32⟩
  | .hbm, ⟨11, _⟩ => ⟨S16x1, .i32⟩
  | .hbm, ⟨12, _⟩ => ⟨S16x2048, .i32⟩
  | .hbm, ⟨13, _⟩ => ⟨S16x2048, .i32⟩
  | .hbm, ⟨14, _⟩ => ⟨S16x2048, .i1⟩
  | .hbm, ⟨15, _⟩ => ⟨S16x2048x1, .i1⟩
  | .hbm, ⟨16, _⟩ => ⟨S16x1x2048, .i1⟩
  | .hbm, ⟨17, _⟩ => ⟨S16x2048x2048, .i1⟩
  | .hbm, ⟨18, _⟩ => ⟨S16x2048x2048, .i1⟩
  | .hbm, ⟨19, _⟩ => ⟨S16x2048x2048, .i1⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .i1⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .i1⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048x2048, .f32⟩
  | .hbm, ⟨52, _⟩ => ⟨S16x2048x2048, .i1⟩
  | .hbm, ⟨53, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_call3_v0 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Cells.lean ====
/-
  The kernel's buffers, the cells of its two rings, and what each cell holds between two transfers.

  The input ring has ten slots of sixteen column chunks, the output ring eight slots. A step `u` of the kernel is the
  row block `u % 8` of batch `u / 8`; its chunk `k` lives in slot `u % 10` of the input ring.
-/
module

public import proofs.«01_k».proof.Proof.Gen.Kernel.Launch
public import proofs.«01_k».proof.Proof.Gen.Kernel.Skeleton
public import Idealize.ShloMosaic.Lib.Pipeline.FrameValue
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The bookkeeping of transfers in flight. -/
abbrev EC : UEmb Counters (MT nD τ sig Unit (Elt F) ℕ (Pipeline.UD sig nD τ) ℕ) := countersEmb

/-! ## Memory references -/

abbrev xM : Memref sig .tc .hbm S16x2048x2048 .f32 := Memref.whole main_arg0
abbrev rM : Memref sig .tc .hbm S16x2048x2048 .f32 := Memref.whole main_v0
abbrev bM : Memref sig .tc .vmem S10x256x2048 .f32 := Memref.whole cc0_scratch0
abbrev oM : Memref sig .tc .vmem S8x256x2048 .f32 := Memref.whole cc0_scratch1
abbrev nM : Memref sig .tc .smem S16 .i32 := Memref.whole main_arg1
abbrev cM : Memref sig .tc .smem S16 .i32 := Memref.whole main_arg2

abbrev XBuf (F : FTy → Type) : Type := S16x2048x2048.Idx → Elt F .f32
abbrev BBuf (F : FTy → Type) : Type := S10x256x2048.Idx → Elt F .f32
abbrev OBuf (F : FTy → Type) : Type := S8x256x2048.Idx → Elt F .f32
abbrev TBuf (F : FTy → Type) : Type := S16.Idx → Elt F .i32

/-- An index of the argument, its coordinates brought into range. -/
def ix3 (a b c : ℕ) : S16x2048x2048.Idx := fun i => match i with
  | 0 => ⟨a % 16, Nat.mod_lt _ (by decide)⟩
  | 1 => ⟨b % 2048, Nat.mod_lt _ (by decide)⟩
  | 2 => ⟨c % 2048, Nat.mod_lt _ (by decide)⟩

/-- An index of a table. -/
def ix1 (a : ℕ) : S16.Idx := fun i => match i with
  | 0 => ⟨a % 16, Nat.mod_lt _ (by decide)⟩

theorem ix3_eq (i : S16x2048x2048.Idx) {a b c : ℕ} (h0 : (i 0).val = a) (h1 : (i 1).val = b) (h2 : (i 2).val = c) :
    i = ix3 a b c := by
  have l0 : (i 0).val < 16 := (i 0).isLt
  have l1 : (i 1).val < 2048 := (i 1).isLt
  have l2 : (i 2).val < 2048 := (i 2).isLt
  funext x; apply Fin.ext
  fin_cases x
  · show (i 0).val = a % 16; omega
  · show (i 1).val = b % 2048; omega
  · show (i 2).val = c % 2048; omega

/-- Row `r`, column `l` of step `u`'s block of the argument. -/
def xAt (X : XBuf F) (u r l : ℕ) : Elt F .f32 := X (ix3 (u / 8) (256 * (u % 8) + r) l)

/-! ## Element sets -/

/-- Chunk `k` of slot `s` of the input ring. -/
def reg (s k : ℕ) : Finset S10x256x2048.Idx :=
  Finset.univ.filter fun i => (i 0).val = s ∧ 128 * k ≤ (i 2).val ∧ (i 2).val < 128 * k + 128

/-- Chunk `k` of step `u`'s block of the argument. -/
def xreg (u k : ℕ) : Finset S16x2048x2048.Idx :=
  Finset.univ.filter fun i => (i 0).val = u / 8 ∧ (256 * (u % 8) ≤ (i 1).val ∧ (i 1).val < 256 * (u % 8) + 256)
    ∧ 128 * k ≤ (i 2).val ∧ (i 2).val < 128 * k + 128

/-- Slot `s` of the output ring. -/
def oreg (s : ℕ) : Finset S8x256x2048.Idx := Finset.univ.filter fun i => (i 0).val = s

/-- Step `u`'s block of the result. -/
def rreg (u : ℕ) : Finset S16x2048x2048.Idx :=
  Finset.univ.filter fun i => (i 0).val = u / 8 ∧ 256 * (u % 8) ≤ (i 1).val ∧ (i 1).val < 256 * (u % 8) + 256

section Geometry

variable {s k u : ℕ}

theorem set_bchunk {off : Fin 3 → ℕ} (h : off = ![s, 0, 128 * k]) (inb : ∀ a, off a + S1x256x128.size a ≤ S10x256x2048.size a) (hs) :
    ((bM.slice (Rect.unit off S1x256x128.size inb) hs).squeeze S256x128 squeezes_S1x256x128_S256x128).view.set = reg s k := by
  refine (View.set_reshape _ _).trans ((View.set_slice_whole _ _).trans ?_)
  subst h
  ext i
  have l1 : (i 1).val < 256 := (i 1).isLt
  simp only [Rect.mem_set_unit, reg, Finset.mem_filter, Finset.mem_univ, true_and]
  constructor
  · intro h
    have h0 := h 0; have h2 := h 2
    change s ≤ (i 0).val ∧ (i 0).val < s + 1 at h0
    change 128 * k ≤ (i 2).val ∧ (i 2).val < 128 * k + 128 at h2
    omega
  · intro h a
    fin_cases a
    · show s ≤ (i 0).val ∧ (i 0).val < s + 1; omega
    · show 0 ≤ (i 1).val ∧ (i 1).val < 0 + 256; omega
    · show 128 * k ≤ (i 2).val ∧ (i 2).val < 128 * k + 128; omega

theorem set_xchunk {off : Fin 3 → ℕ} (h : off = ![u / 8, 256 * (u % 8), 128 * k]) (inb : ∀ a, off a + S1x256x128.size a ≤ S16x2048x2048.size a) (hs) :
    ((xM.slice (Rect.unit off S1x256x128.size inb) hs).squeeze S256x128 squeezes_S1x256x128_S256x128).view.set = xreg u k := by
  refine (View.set_reshape _ _).trans ((View.set_slice_whole _ _).trans ?_)
  subst h
  ext i
  simp only [Rect.mem_set_unit, xreg, Finset.mem_filter, Finset.mem_univ, true_and]
  constructor
  · intro h
    have h0 := h 0; have h1 := h 1; have h2 := h 2
    change u / 8 ≤ (i 0).val ∧ (i 0).val < u / 8 + 1 at h0
    change 256 * (u % 8) ≤ (i 1).val ∧ (i 1).val < 256 * (u % 8) + 256 at h1
    change 128 * k ≤ (i 2).val ∧ (i 2).val < 128 * k + 128 at h2
    omega
  · intro h a
    fin_cases a
    · show u / 8 ≤ (i 0).val ∧ (i 0).val < u / 8 + 1; omega
    · show 256 * (u % 8) ≤ (i 1).val ∧ (i 1).val < 256 * (u % 8) + 256; omega
    · show 128 * k ≤ (i 2).val ∧ (i 2).val < 128 * k + 128; omega

theorem set_oslot {off : Fin 3 → ℕ} (h : off = ![s, 0, 0]) (inb : ∀ a, off a + S1x256x2048.size a ≤ S8x256x2048.size a) (hs) :
    ((oM.slice (Rect.unit off S1x256x2048.size inb) hs).squeeze S256x2048 squeezes_S1x256x2048_S256x2048).view.set = oreg s := by
  refine (View.set_reshape _ _).trans ((View.set_slice_whole _ _).trans ?_)
  subst h
  ext i
  have l1 : (i 1).val < 256 := (i 1).isLt
  have l2 : (i 2).val < 2048 := (i 2).isLt
  simp only [Rect.mem_set_unit, oreg, Finset.mem_filter, Finset.mem_univ, true_and]
  constructor
  · intro h
    have h0 := h 0
    change s ≤ (i 0).val ∧ (i 0).val < s + 1 at h0
    omega
  · intro h a
    fin_cases a
    · show s ≤ (i 0).val ∧ (i 0).val < s + 1; omega
    · show 0 ≤ (i 1).val ∧ (i 1).val < 0 + 256; omega
    · show 0 ≤ (i 2).val ∧ (i 2).val < 0 + 2048; omega

theorem set_rblock {off : Fin 3 → ℕ} (h : off = ![u / 8, 256 * (u % 8), 0]) (inb : ∀ a, off a + S1x256x2048.size a ≤ S16x2048x2048.size a) (hs) :
    ((rM.slice (Rect.unit off S1x256x2048.size inb) hs).squeeze S256x2048 squeezes_S1x256x2048_S256x2048).view.set = rreg u := by
  refine (View.set_reshape _ _).trans ((View.set_slice_whole _ _).trans ?_)
  subst h
  ext i
  have l2 : (i 2).val < 2048 := (i 2).isLt
  simp only [Rect.mem_set_unit, rreg, Finset.mem_filter, Finset.mem_univ, true_and]
  constructor
  · intro h
    have h0 := h 0; have h1 := h 1
    change u / 8 ≤ (i 0).val ∧ (i 0).val < u / 8 + 1 at h0
    change 256 * (u % 8) ≤ (i 1).val ∧ (i 1).val < 256 * (u % 8) + 256 at h1
    omega
  · intro h a
    fin_cases a
    · show u / 8 ≤ (i 0).val ∧ (i 0).val < u / 8 + 1; omega
    · show 256 * (u % 8) ≤ (i 1).val ∧ (i 1).val < 256 * (u % 8) + 256; omega
    · show 0 ≤ (i 2).val ∧ (i 2).val < 0 + 2048; omega

/-- What a chunk's transfer writes: the argument's elements at the same row and column of step `u`'s block. -/
theorem write_bchunk {off5 off3 : Fin 3 → ℕ} (h5 : off5 = ![s, 0, 128 * k]) (h3 : off3 = ![u / 8, 256 * (u % 8), 128 * k])
    (i5 : ∀ a, off5 a + S1x256x128.size a ≤ S10x256x2048.size a) (i3 : ∀ a, off3 a + S1x256x128.size a ≤ S16x2048x2048.size a) (hs5) (hs3)
    (X : XBuf F) (f : BBuf F) :
    ∀ i ∈ reg s k,
      (((bM.slice (Rect.unit off5 S1x256x128.size i5) hs5).squeeze S256x128 squeezes_S1x256x128_S256x128).view.write (Elt F) f
        ((((xM.slice (Rect.unit off3 S1x256x128.size i3) hs3).squeeze S256x128 squeezes_S1x256x128_S256x128).view.read (Elt F) X)) Finset.univ) i
      = xAt X u (i 1).val (i 2).val := by
  intro i hi
  rw [← set_bchunk h5 i5 hs5] at hi
  obtain ⟨z, -, rfl⟩ := Finset.mem_map.mp hi
  rw [View.write_emb_of_mem _ _ (Finset.mem_univ _)]
  subst h5; subst h3
  show X _ = X _
  congr 1
  apply ix3_eq
  · have hz : (Shape.reshapeEquiv squeezes_S1x256x128_S256x128.numel_eq z 0).val < 1 := (Shape.reshapeEquiv squeezes_S1x256x128_S256x128.numel_eq z 0).isLt
    show u / 8 + 1 * (Shape.reshapeEquiv squeezes_S1x256x128_S256x128.numel_eq z 0).val = u / 8
    omega
  · show 256 * (u % 8) + 1 * (Shape.reshapeEquiv squeezes_S1x256x128_S256x128.numel_eq z 1).val
      = 256 * (u % 8) + (0 + 1 * (Shape.reshapeEquiv squeezes_S1x256x128_S256x128.numel_eq z 1).val)
    omega
  · rfl

end Geometry

end Cert.Kernel.Hand
-- ==== Proof.Ring.lean ====
/-
  The input ring: what a cell holds while it is free, while its transfer is in flight and once it has landed, and the
  rules for starting a chunk's transfer and for waiting for it.

  Chunk `k` of step `u` has serial number `16 * u + k`; a cell is used again 160 serial numbers later.
-/
module

public import proofs.«01_k».proof.Proof.Cells

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTokN shareDrop)

variable {F : FTy → Type} [FloatOps F]

local notation "𝕄" => MT nD τ sig Unit (Elt F) ℕ (Pipeline.UD sig nD τ) ℕ

/-- A program of the kernel runs on core `c` to the postcondition. -/
def Runs {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-! ## Semaphores -/

theorem inSem (m : ℕ) : m % 160 < 168 := Nat.lt_trans (Nat.mod_lt _ (by decide)) (by decide)
theorem outSem (u : ℕ) : 160 + u % 8 < 168 := by omega

/-- The semaphore of the input cell with serial number `m`. -/
def isem (m : ℕ) : DmaSem sig := ⟨m % 160, inSem m⟩
/-- The semaphore of step `u`'s output slot. -/
def osem (u : ℕ) : DmaSem sig := ⟨160 + u % 8, outSem u⟩

theorem in10 {s k : ℕ} (hs : s < 10) (hk : k < 16) : ∀ a, (![s, k] : Fin 2 → ℕ) a + S1x1.size a ≤ S10x16.size a := by
  intro a; fin_cases a
  · show s + 1 ≤ 10; omega
  · show k + 1 ≤ 16; omega

theorem in8 {s : ℕ} (hs : s < 8) : ∀ a, (![s] : Fin 1 → ℕ) a + S1.size a ≤ S8.size a := by
  intro a; fin_cases a; show s + 1 ≤ 8; omega

theorem sem_in_table : ∀ (s : Fin 10) (k : Fin 16),
    ((((cc0_scratch2 : DmaSems sig S10x16).slice (Rect.unit (s := S10x16) ![s.val, k.val] S1x1.size (in10 s.isLt k.isLt))).squeeze S_ squeezes_S1x1_S_).sem).val
      = 16 * s.val + k.val := by decide +kernel

theorem sem_out_table : ∀ (s : Fin 8),
    ((((cc0_scratch3 : DmaSems sig S8).slice (Rect.unit (s := S8) ![s.val] S1.size (in8 s.isLt))).squeeze S_ squeezes_S1_S_).sem).val
      = 160 + s.val := by decide +kernel

theorem sem_in {off : Fin 2 → ℕ} {m : ℕ} (h : off = ![m / 16 % 10, m % 16]) (inb : ∀ a, off a + S1x1.size a ≤ S10x16.size a) :
    (((cc0_scratch2 : DmaSems sig S10x16).slice (Rect.unit (s := S10x16) off S1x1.size inb)).squeeze S_ squeezes_S1x1_S_).sem = isem m := by
  subst h
  apply Fin.ext
  refine (sem_in_table ⟨m / 16 % 10, Nat.mod_lt _ (by decide)⟩ ⟨m % 16, Nat.mod_lt _ (by decide)⟩).trans ?_
  show 16 * (m / 16 % 10) + m % 16 = m % 160
  omega

theorem sem_out {off : Fin 1 → ℕ} {u : ℕ} (h : off = ![u % 8]) (inb : ∀ a, off a + S1.size a ≤ S8.size a) :
    (((cc0_scratch3 : DmaSems sig S8).slice (Rect.unit (s := S8) off S1.size inb)).squeeze S_ squeezes_S1_S_).sem = osem u := by
  subst h
  exact Fin.ext (sem_out_table ⟨u % 8, Nat.mod_lt _ (by decide)⟩)

/-! ## The cells -/

section Cells

variable (c : Dev nD) (X : XBuf F) (N1 N2 : TBuf F)

abbrev xL : Loc nD τ sig := (c : Thread nD τ).loc main_arg0
abbrev rL : Loc nD τ sig := (c : Thread nD τ).loc main_v0
abbrev bL : Loc nD τ sig := (c : Thread nD τ).loc cc0_scratch0
abbrev oL : Loc nD τ sig := (c : Thread nD τ).loc cc0_scratch1
abbrev nL : Loc nD τ sig := (c : Thread nD τ).loc main_arg1
abbrev cL : Loc nD τ sig := (c : Thread nD τ).loc main_arg2

/-- The cell's part of the ring. -/
abbrev cellReg (m : ℕ) : Finset S10x256x2048.Idx := reg (m / 16 % 10) (m % 16)
/-- The chunk's part of the argument. -/
abbrev srcReg (m : ℕ) : Finset S16x2048x2048.Idx := xreg (m / 16) (m % 16)
/-- The cell's share of the argument. -/
abbrev tok (m : ℕ) : PosShare TreeShare := shareTokN fullShare (m % 160)

/-- Whether a chunk is copied, as the kernel computes it from the step's word, its batch's two table entries and the chunk's first column. -/
abbrev liveW (w n1 n2 kk : BitVec 32) : BitVec 1 :=
  Scalar.cmpi .ne (Scalar.extui (Scalar.andi (Scalar.cmpi .slt (Scalar.muli (Scalar.remsi w 8#32) 256#32) n1) (Scalar.cmpi .sgt n2 kk)) : BitVec 32) 0#32

/-- The chunk with serial number `m` is copied. -/
abbrev Live (m : ℕ) : Prop :=
  liveW (BitVec.ofNat 32 (m / 16)) (N1 (ix1 (m / 16 / 8))) (N2 (ix1 (m / 16 / 8))) (BitVec.ofNat 32 (128 * (m % 16))) = 1#1

/-- The cell holds step `m / 16`'s chunk. -/
abbrev Holds (m : ℕ) (f : BBuf F) : Prop := ∀ i ∈ cellReg m, f i = xAt X (m / 16) (i 1).val (i 2).val

/-- A cell no transfer uses: its semaphore at zero, its part of the ring at anything, its share of the argument. -/
def free (m : ℕ) : sProp 𝕄 :=
  iprop(semVal ((c : Thread nD τ), SemLoc.dma (isem m)) 0 ∗ (∃ f : BBuf F, bL c ↦[cellReg m]{fullShare} f) ∗ xL c ↦{tok m} X)

/-- What a chunk's transfer delivers. -/
def lands (m : ℕ) : sProp 𝕄 :=
  iprop((∃ f : BBuf F, ⌜Holds X m f⌝ ∗ bL c ↦[cellReg m]{fullShare} f) ∗ xL c ↦[srcReg m]{tok m} X)

/-- The amount a chunk's transfer signals. -/
def nIn : ℕ := sig.dmaCredit .tc ((Kind.tc).table .vmem) cc0_scratch0.idx S256x128 .f32

theorem nIn_pos : 0 < nIn := by decide

/-- A cell whose chunk is on its way. -/
def infl (m : ℕ) : sProp 𝕄 :=
  iprop(Flight EC (c : Thread nD τ) (SemLoc.dma (isem m)) () nIn (lands c X m) ∗ xL c ↦[Finset.univ \ srcReg m]{tok m} X)

/-- A cell after its start and before its wait. -/
def pend (m : ℕ) : sProp 𝕄 := by
  classical exact if Live N1 N2 m then infl c X m else free c X m

/-- A cell after its wait. -/
def done (m : ℕ) : sProp 𝕄 :=
  iprop(semVal ((c : Thread nD τ), SemLoc.dma (isem m)) 0
    ∗ (∃ f : BBuf F, ⌜Live N1 N2 m → Holds X m f⌝ ∗ bL c ↦[cellReg m]{fullShare} f) ∗ xL c ↦{tok m} X)

variable {c X N1 N2}

theorem pend_live {m : ℕ} (h : Live N1 N2 m) : pend c X N1 N2 m = infl c X m := by
  classical exact if_pos h
theorem pend_dead {m : ℕ} (h : ¬ Live N1 N2 m) : pend c X N1 N2 m = free c X m := by
  classical exact if_neg h

theorem done_free {m : ℕ} : done c X N1 N2 m ⊢ free c X m := by
  unfold done free
  iintro ⟨Hs, ⟨%f, -, Hf⟩, Hx⟩
  isplitl [Hs]; · iexact Hs
  isplitl [Hf]; · iexists f; iexact Hf
  iexact Hx

theorem free_done {m : ℕ} (h : ¬ Live N1 N2 m) : free c X m ⊢ done c X N1 N2 m := by
  unfold done free
  iintro ⟨Hs, ⟨%f, Hf⟩, Hx⟩
  isplitl [Hs]; · iexact Hs
  isplitl [Hf]
  · iexists f; isplitr
    · ipureintro; exact fun h' => absurd h' h
    iexact Hf
  iexact Hx

theorem free_period (m : ℕ) : free c X (m + 160) = free c X m := by
  have e1 : (m + 160) % 160 = m % 160 := by omega
  have e2 : (m + 160) / 16 % 10 = m / 16 % 10 := by omega
  have e3 : (m + 160) % 16 = m % 16 := by omega
  unfold free isem
  simp only [cellReg, tok, e1, e2, e3]

/-! ## Starting and waiting -/

section Rules

variable {m : ℕ} {s : DmaSem sig} {off5 off3 : Fin 3 → ℕ}
  {i5 : ∀ a, off5 a + S1x256x128.size a ≤ S10x256x2048.size a}
  {i3 : ∀ a, off3 a + S1x256x128.size a ≤ S16x2048x2048.size a}

/-- The chunk of the ring a transfer writes. -/
abbrev bChunk (off5 : Fin 3 → ℕ) (i5 : ∀ a, off5 a + S1x256x128.size a ≤ S10x256x2048.size a) : Memref sig .tc .vmem S256x128 .f32 :=
  (bM.slice (Rect.unit (s := S10x256x2048) off5 S1x256x128.size i5) (fun _ => rfl)).squeeze S256x128 squeezes_S1x256x128_S256x128
/-- The chunk of the argument it reads. -/
abbrev xChunk (off3 : Fin 3 → ℕ) (i3 : ∀ a, off3 a + S1x256x128.size a ≤ S16x2048x2048.size a) : Memref sig .tc .hbm S256x128 .f32 :=
  (xM.slice (Rect.unit (s := S16x2048x2048) off3 S1x256x128.size i3) (fun _ => rfl)).squeeze S256x128 squeezes_S1x256x128_S256x128

theorem start_cell (h7 : s = isem m) (h5 : off5 = ![m / 16 % 10, 0, 128 * (m % 16)])
    (h3 : off3 = ![m / 16 / 8, 256 * (m / 16 % 8), 128 * (m % 16)]) {p q r}
    {α : Type} {Q : α → sProp 𝕄} {R : sProp 𝕄} {k : PUnit → Prog (TpuEff nD τ sig (Elt F) Λ₀ .tc) α}
    (hk : iprop(infl c X m ∗ R) ⊢ Runs c (k ⟨⟩) Q) :
    iprop(free c X m ∗ R)
      ⊢ Runs c (Prog.lift (.enqueueDma (xChunk off3 i3) (.here (bChunk off5 i5)) (.dma s) p q r) >>= k) Q := by
  subst h7
  have hd : (bChunk off5 i5).view.set = cellReg m := set_bchunk h5 i5 _
  have hs : (xChunk off3 i3).view.set = srcReg m := set_xchunk h3 i3 _
  show _ ⊢ Runs c (.op (.enqueueDmaAs (xChunk off3 i3) (.here (bChunk off5 i5)) ReadAs.same (SemLoc.dma (isem m)) p q r) k) Q
  unfold Runs at hk ⊢
  unfold free
  iintro ⟨⟨Hs, ⟨%f, Hf⟩, Hx⟩, HR⟩
  ihave Hx2 := (pointsTo_split_subset (Finset.subset_univ (srcReg m))).1 $$ Hx
  icases Hx2 with ⟨Hx, Hxr⟩
  have key := Transfers.wp_dmaLocal (defs := defs₀ (F := F)) (Q := Q) (k := k) (src := xChunk off3 i3) (via := ReadAs.same) (dst := bChunk off5 i5)
    (sm := SemLoc.dma (isem m)) (hsrc := p) (hdst := q) (hsem := r) (q := tok m) (fs := X) (fd := f)
    EC Variants.none (c : Thread nD τ) none () nIn rfl nIn_pos (Sd := cellReg m) (subset_of_eq hd)
  rw [hs] at key
  iapply key $$ [Hs Hf Hx]
  · isplitl [Hx]; · iexact Hx
    isplitl [Hf]; · iexact Hf
    iexact Hs
  iintro HF
  iapply hk
  isplitr [HR]
  · unfold infl
    isplitl [HF]
    · iapply (Transfers.Flight_mono (h := ?_)) $$ HF
      unfold lands
      iintro ⟨Hd, Hx⟩
      isplitl [Hd]
      · iexists _
        isplitr; swap; · iexact Hd
        ipureintro
        exact write_bchunk h5 h3 i5 i3 _ _ X f
      iexact Hx
    iexact Hxr
  iexact HR

theorem wait_cell (h7 : s = isem m) {srcw : Memref sig .tc .hbm S256x128 .f32}
    {p : srcw.view.WordExact} {q : (bChunk off5 i5).view.WordExact}
    {α : Type} {Q : α → sProp 𝕄} {R : sProp 𝕄} {k : PUnit → Prog (TpuEff nD τ sig (Elt F) Λ₀ .tc) α}
    (hk : iprop(done c X N1 N2 m ∗ (∃ W, owes (c : Thread nD τ) 0 W) ∗ R) ⊢ Runs c (k ⟨⟩) Q) :
    iprop(infl c X m ∗ (∃ W, owes (c : Thread nD τ) 0 W) ∗ R)
      ⊢ Runs c (Prog.lift (.waitDma2 s srcw (bChunk off5 i5) p q) >>= k) Q := by
  subst h7
  show _ ⊢ Runs c (.op (.waitDma2 (isem m) srcw (bChunk off5 i5) p q) k) Q
  unfold Runs at hk ⊢
  unfold infl
  iintro ⟨⟨HF, Hxr⟩, ⟨%W, HW⟩, HR⟩
  have key := Transfers.wp_waitLocal (defs := defs₀ (F := F)) (Q := Q) (k := k) (srcw := srcw) (dstw := bChunk off5 i5)
    (sem := isem m) (hsrc := p) (hdst := q) EC Variants.none (c : Thread nD τ) none () (N := nIn) rfl (D := lands c X m) (W := W)
  iapply key $$ [HF HW]
  · isplitl [HF]; · iexact HF
    iexact HW
  unfold lands
  iintro ⟨⟨⟨%f, %hf, Hf⟩, Hx⟩, Hs, HW⟩
  ihave Hx := (pointsTo_split_subset (ℓ := xL c) (q := tok m) (f := X) (Finset.subset_univ (srcReg m))).2 $$ [Hx Hxr]
  · isplitl [Hx]; · iexact Hx
    iexact Hxr
  iapply hk
  isplitl [Hs Hf Hx]
  · unfold done
    isplitl [Hs]; · iexact Hs
    isplitl [Hf]
    · iexists f; isplitr
      · ipureintro; exact fun _ => hf
      iexact Hf
    iexact Hx
  isplitl [HW]; · iexists _; iexact HW
  iexact HR

end Rules

/-! ## The ring -/

theorem bigSep_bot {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by ext x; simp only [Finset.mem_insert, Finset.mem_Ico]; omega,
    bigSep_insert (by simp)]; rfl

theorem bigSep_top {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) by ext x; simp only [Finset.mem_insert, Finset.mem_Ico]; omega,
    bigSep_insert (by simp)]; rfl

variable (c X N1 N2)

/-- The ring with the chunks from `a` on in it: those below `j` waited for, those below `n` started, the rest free. -/
def Ring (a j n : ℕ) : sProp 𝕄 :=
  iprop(bigSep (Finset.Ico a j) (done c X N1 N2) ∗ bigSep (Finset.Ico j n) (pend c X N1 N2)
    ∗ bigSep (Finset.Ico n (a + 160)) (free c X))

/-- The two tables, at the share the body has of them. -/
def Tabs : sProp 𝕄 := iprop((nL c ↦{fullShare.right} N1) ∗ (cL c ↦{fullShare.right} N2))

/-- What the body holds: the ring, the tables, the record of its waits, and the rest. -/
def St (a j n : ℕ) (O : sProp 𝕄) : sProp 𝕄 :=
  iprop(Ring c X N1 N2 a j n ∗ Tabs c N1 N2 ∗ (∃ W, owes (c : Thread nD τ) 0 W) ∗ O)

variable {c X N1 N2}

section Steps

variable {a j : ℕ} {off : Fin 1 → ℕ} {b : ℕ} {s : DmaSem sig} {off5 off3 : Fin 3 → ℕ}
  {i5 : ∀ a, off5 a + S1x256x128.size a ≤ S10x256x2048.size a}
  {i3 : ∀ a, off3 a + S1x256x128.size a ≤ S16x2048x2048.size a}

theorem read_table {off : Fin 1 → ℕ} {b : ℕ} (h : off = ![b]) (inb : ∀ a, off a + S1.size a ≤ S16.size a) (x : S1.Idx) :
    (Rect.unit (s := S16) off S1.size inb).emb x = ix1 b := by
  subst h
  have hb : b + 1 ≤ 16 := inb 0
  have hx : (x 0).val < 1 := (x 0).isLt
  funext y; fin_cases y; apply Fin.ext
  show b + 1 * (x 0).val = b % 16
  omega

/-- A load from a table, given what it reads and where the table is among what is held. -/
theorem load_core {M : Memref sig .tc .smem S16 .i32} {r : Rect S16} {h1 : r.shape.numel = 1} {hp} {f : Buf (Elt F) ((M.access r).loc (c : Thread nD τ))} {w : Elt F .i32}
    (hw : (M.access r).read (Elt F) f (Shape.Idx.first (h1.symm ▸ Nat.one_pos)) = w) {P P' : sProp 𝕄}
    (hopen : P ⊢ iprop(((M.access r).loc (c : Thread nD τ) ↦{fullShare.right} f) ∗ P'))
    (hclose : iprop(((M.access r).loc (c : Thread nD τ) ↦{fullShare.right} f) ∗ P') ⊢ P)
    {α : Type} {Q : α → sProp 𝕄} {k : Elt F .i32 → Prog (TpuEff nD τ sig (Elt F) Λ₀ .tc) α} (hk : P ⊢ Runs c (k w) Q) :
    P ⊢ Runs c (smemLoad M r h1 hp >>= k) Q := by
  have key := wp_smemLoadElt (Γ := .nil) (defs := defs₀ (F := F)) (Q := Q) (k := k) (m := M) (r := r)
    (hw := View.loads_smem_one hp h1) (x := Shape.Idx.first (h1.symm ▸ Nat.one_pos)) Variants.none (c : Thread nD τ) none Set.univ (S := Finset.univ)
    (q := fullShare.right) (f := f) (Finset.subset_univ _)
  rw [hw] at key
  refine hopen.trans (BIBase.Entails.trans (show _ ⊢ iprop(((M.access r).loc (c : Thread nD τ) ↦{fullShare.right} f)
    ∗ (((M.access r).loc (c : Thread nD τ) ↦{fullShare.right} f) -∗ Runs c (k w) Q)) from ?_) (BIClass.wand_elim key))
  iintro ⟨H1, H2⟩
  isplitl [H1]; · iexact H1
  iintro H1
  iapply hk
  iapply hclose
  isplitl [H1]; · iexact H1
  iexact H2

theorem st_load1 {a j n : ℕ} {O : sProp 𝕄} (h : off = ![b]) {inb : ∀ a, off a + S1.size a ≤ S16.size a} {h1} {hp}
    {α : Type} {Q : α → sProp 𝕄} {k : Elt F .i32 → Prog (TpuEff nD τ sig (Elt F) Λ₀ .tc) α}
    (hk : St c X N1 N2 a j n O ⊢ Runs c (k (N1 (ix1 b))) Q) :
    St c X N1 N2 a j n O ⊢ Runs c (smemLoad nM (Rect.unit (s := S16) off S1.size inb) h1 hp >>= k) Q := by
  refine load_core (M := nM) (r := Rect.unit (s := S16) off S1.size inb) (w := N1 (ix1 b)) (f := N1) (P' := iprop((cL c ↦{fullShare.right} N2) ∗ Ring c X N1 N2 a j n ∗ (∃ W, owes (c : Thread nD τ) 0 W) ∗ O))
    (congrArg N1 (read_table h inb _)) ?_ ?_ hk
  all_goals unfold St Tabs
  · iintro ⟨HR, ⟨H1, H2⟩, HO⟩
    isplitl [H1]; · iexact H1
    isplitl [H2]; · iexact H2
    isplitl [HR]; · iexact HR
    iexact HO
  · iintro ⟨H1, H2, HR, HO⟩
    isplitl [HR]; · iexact HR
    isplitl [H1 H2]
    · isplitl [H1]; · iexact H1
      iexact H2
    iexact HO

theorem st_load2 {a j n : ℕ} {O : sProp 𝕄} (h : off = ![b]) {inb : ∀ a, off a + S1.size a ≤ S16.size a} {h1} {hp}
    {α : Type} {Q : α → sProp 𝕄} {k : Elt F .i32 → Prog (TpuEff nD τ sig (Elt F) Λ₀ .tc) α}
    (hk : St c X N1 N2 a j n O ⊢ Runs c (k (N2 (ix1 b))) Q) :
    St c X N1 N2 a j n O ⊢ Runs c (smemLoad cM (Rect.unit (s := S16) off S1.size inb) h1 hp >>= k) Q := by
  refine load_core (M := cM) (r := Rect.unit (s := S16) off S1.size inb) (w := N2 (ix1 b)) (f := N2) (P' := iprop((nL c ↦{fullShare.right} N1) ∗ Ring c X N1 N2 a j n ∗ (∃ W, owes (c : Thread nD τ) 0 W) ∗ O))
    (congrArg N2 (read_table h inb _)) ?_ ?_ hk
  all_goals unfold St Tabs
  · iintro ⟨HR, ⟨H1, H2⟩, HO⟩
    isplitl [H2]; · iexact H2
    isplitl [H1]; · iexact H1
    isplitl [HR]; · iexact HR
    iexact HO
  · iintro ⟨H2, H1, HR, HO⟩
    isplitl [HR]; · iexact HR
    isplitl [H1 H2]
    · isplitl [H1]; · iexact H1
      iexact H2
    iexact HO

theorem pend_put (m : ℕ) {n : ℕ} (hn : n < a + 160) (hj : j ≤ n) {α : Type} {Q : α → sProp 𝕄} {O : sProp 𝕄}
    {k : Prog (TpuEff nD τ sig (Elt F) Λ₀ .tc) α} (hk : St c X N1 N2 a j (n + 1) O ⊢ Runs c k Q) :
    iprop(pend c X N1 N2 n ∗ (bigSep (Finset.Ico a j) (done c X N1 N2) ∗ bigSep (Finset.Ico j n) (pend c X N1 N2)
      ∗ bigSep (Finset.Ico (n + 1) (a + 160)) (free c X)) ∗ Tabs c N1 N2 ∗ (∃ W, owes (c : Thread nD τ) 0 W) ∗ O) ⊢ Runs c k Q := by
  refine BIBase.Entails.trans (show _ ⊢ _ from ?_) hk
  unfold St Ring
  rw [bigSep_top hj]
  iintro ⟨Hp, ⟨Hd, Hq, Hf⟩, HO⟩
  isplitl [Hp Hd Hq Hf]
  · isplitl [Hd]; · iexact Hd
    isplitr [Hf]; swap; · iexact Hf
    isplitl [Hp]; · iexact Hp
    iexact Hq
  iexact HO

/-- The start of a chunk, in the conditional it is printed in. -/
theorem st_start {a j n : ℕ} {O : sProp 𝕄} {n' : ℕ} (hn' : n + 1 = n') (hn : n < a + 160) (hj : j ≤ n) {v : BitVec 1} (hv : v = 1#1 ↔ Live N1 N2 n)
    (h7 : s = isem n) (h5 : off5 = ![n / 16 % 10, 0, 128 * (n % 16)])
    (h3 : off3 = ![n / 16 / 8, 256 * (n / 16 % 8), 128 * (n % 16)]) {p q r}
    {α : Type} {Q : α → sProp 𝕄} {k : Prog (TpuEff nD τ sig (Elt F) Λ₀ .tc) α}
    (hk : St c X N1 N2 a j n' O ⊢ Runs c k Q) :
    St c X N1 N2 a j n O
      ⊢ Runs c (if v = 1#1 then Prog.lift (.enqueueDma (xChunk off3 i3) (.here (bChunk off5 i5)) (.dma s) p q r) >>= (fun _ => k) else k) Q := by
  subst hn'
  have hput := pend_put (c := c) (X := X) (N1 := N1) (N2 := N2) n hn hj hk
  unfold St Ring
  rw [bigSep_bot (show n < a + 160 from hn) (free c X)]
  refine BIBase.Entails.trans (Q := iprop(free c X n ∗ (bigSep (Finset.Ico a j) (done c X N1 N2) ∗ bigSep (Finset.Ico j n) (pend c X N1 N2)
      ∗ bigSep (Finset.Ico (n + 1) (a + 160)) (free c X)) ∗ Tabs c N1 N2 ∗ (∃ W, owes (c : Thread nD τ) 0 W) ∗ O)) (show _ ⊢ _ from ?_) ?_
  · iintro ⟨⟨Hd, Hq, Hf, Hr⟩, HO⟩
    isplitl [Hf]; · iexact Hf
    isplitr [HO]; swap; · iexact HO
    isplitl [Hd]; · iexact Hd
    isplitl [Hq]; · iexact Hq
    iexact Hr
  by_cases hl : Live N1 N2 n
  · rw [if_pos (hv.2 hl)]
    rw [pend_live hl] at hput
    exact start_cell (k := fun _ => k) h7 h5 h3 hput
  · rw [if_neg (fun h => hl (hv.1 h))]
    rw [pend_dead hl] at hput
    exact hput

/-- The wait for a chunk, in the conditional it is printed in. -/
theorem st_wait {a j n : ℕ} {O : sProp 𝕄} {j' : ℕ} (hj' : j + 1 = j') (hn : j < n) (ha : a ≤ j) {v : BitVec 1} (hv : v = 1#1 ↔ Live N1 N2 j)
    (h7 : s = isem j) {srcw : Memref sig .tc .hbm S256x128 .f32}
    {p : srcw.view.WordExact} {q : (bChunk off5 i5).view.WordExact}
    {α : Type} {Q : α → sProp 𝕄} {k : Prog (TpuEff nD τ sig (Elt F) Λ₀ .tc) α}
    (hk : St c X N1 N2 a j' n O ⊢ Runs c k Q) :
    St c X N1 N2 a j n O
      ⊢ Runs c (if v = 1#1 then Prog.lift (.waitDma2 s srcw (bChunk off5 i5) p q) >>= (fun _ => k) else k) Q := by
  subst hj'
  have hput : iprop(done c X N1 N2 j ∗ (∃ W, owes (c : Thread nD τ) 0 W) ∗ (bigSep (Finset.Ico a j) (done c X N1 N2)
      ∗ bigSep (Finset.Ico (j + 1) n) (pend c X N1 N2) ∗ bigSep (Finset.Ico n (a + 160)) (free c X)) ∗ Tabs c N1 N2 ∗ O) ⊢ Runs c k Q := by
    refine BIBase.Entails.trans (show _ ⊢ _ from ?_) hk
    unfold St Ring
    rw [bigSep_top ha]
    iintro ⟨Hp, HW, ⟨Hd, Hq, Hf⟩, HT, HO⟩
    isplitl [Hp Hd Hq Hf]
    · isplitl [Hp Hd]
      · isplitl [Hp]; · iexact Hp
        iexact Hd
      isplitl [Hq]; · iexact Hq
      iexact Hf
    isplitl [HT]; · iexact HT
    isplitl [HW]; · iexact HW
    iexact HO
  unfold St Ring
  rw [bigSep_bot hn (pend c X N1 N2)]
  refine BIBase.Entails.trans (Q := iprop(pend c X N1 N2 j ∗ (∃ W, owes (c : Thread nD τ) 0 W) ∗ (bigSep (Finset.Ico a j) (done c X N1 N2)
      ∗ bigSep (Finset.Ico (j + 1) n) (pend c X N1 N2) ∗ bigSep (Finset.Ico n (a + 160)) (free c X)) ∗ Tabs c N1 N2 ∗ O)) (show _ ⊢ _ from ?_) ?_
  · iintro ⟨⟨Hd, ⟨Hp, Hq⟩, Hf⟩, HT, HW, HO⟩
    isplitl [Hp]; · iexact Hp
    isplitl [HW]; · iexact HW
    isplitr [HT HO]
    · isplitl [Hd]; · iexact Hd
      isplitl [Hq]; · iexact Hq
      iexact Hf
    isplitl [HT]; · iexact HT
    iexact HO
  by_cases hl : Live N1 N2 j
  · rw [if_pos (hv.2 hl), pend_live hl]
    exact wait_cell (k := fun _ => k) h7 hput
  · rw [if_neg (fun h => hl (hv.1 h)), pend_dead hl]
    exact BIBase.Entails.trans (sep_mono_l (free_done hl)) hput

/-- A returned value reaches the postcondition. -/
theorem st_ret {P : sProp 𝕄} {α : Type} {Q : α → sProp 𝕄} {v : α} (h : P ⊢ Q v) : P ⊢ Runs c (Prog.ret v) Q := by
  refine h.trans ?_
  unfold Runs
  rw [wp_ret]
  iintro H; imodintro; iexact H

/-- A block of the kernel, then what follows it. -/
theorem st_seq {P : sProp 𝕄} {α β : Type} {Q : β → sProp 𝕄} {p : Prog (TpuEff nD τ sig (Elt F) Λ₀ .tc) α}
    {k : α → Prog (TpuEff nD τ sig (Elt F) Λ₀ .tc) β} (h : P ⊢ Runs c p (fun a => Runs c (k a) Q)) : P ⊢ Runs c (p >>= k) Q := by
  refine h.trans ?_
  unfold Runs
  rw [wp_bind]

end Steps

attribute [irreducible] Runs

end Cells

end Cert.Kernel.Hand
-- ==== Proof.Words.lean ====
/-
  The words the kernel computes from a step's number, and the two rules of the input ring for a step given by its word.
-/
module

public import proofs.«01_k».proof.Proof.Ring

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The quotient by eight as the kernel prints it: rounded down, by correcting the quotient rounded to zero. -/
abbrev div8 (w : BitVec 32) : BitVec 32 :=
  Scalar.select
    (Scalar.andi
      (Scalar.cmpi .ne
        (Scalar.subi (Scalar.extui (Scalar.cmpi .sgt w 0#32) : BitVec 32) (Scalar.extui (Scalar.cmpi .slt w 0#32)))
        (Scalar.subi (Scalar.extui (Scalar.cmpi .sgt 8#32 0#32) : BitVec 32) (Scalar.extui (Scalar.cmpi .slt 8#32 0#32))))
      (Scalar.cmpi .ne (Scalar.remsi w 8#32) 0#32))
    (Scalar.subi (Scalar.divsi w 8#32) 1#32) (Scalar.divsi w 8#32)

/-- A word that holds a step's number, with what the kernel computes from it. -/
structure StepWord (w : BitVec 32) (u : ℕ) : Prop where
  eq : w = BitVec.ofNat 32 u
  idx : (Scalar.indexCast (div8 w) : Index).toNat = u / 8
  quo : (div8 w).toNat = u / 8
  slot : (Scalar.remsi w 10#32).toNat = u % 10
  oslot : (Scalar.remsi w 8#32).toNat = u % 8
  row : (Scalar.muli (Scalar.remsi w 8#32) 256#32).toNat = 256 * (u % 8)

theorem word_table : ∀ u : Fin 128,
    (Scalar.indexCast (div8 (BitVec.ofNat 32 u.val)) : Index).toNat = u.val / 8 ∧ (div8 (BitVec.ofNat 32 u.val)).toNat = u.val / 8
    ∧ (Scalar.remsi (BitVec.ofNat 32 u.val) 10#32).toNat = u.val % 10
    ∧ (Scalar.remsi (BitVec.ofNat 32 u.val) 8#32).toNat = u.val % 8
    ∧ (Scalar.muli (Scalar.remsi (BitVec.ofNat 32 u.val) 8#32) 256#32).toNat = 256 * (u.val % 8) := by decide +kernel

theorem word {u : ℕ} (h : u < 128) : StepWord (BitVec.ofNat 32 u) u :=
  have t := word_table ⟨u, h⟩
  ⟨rfl, t.1, t.2.1, t.2.2.1, t.2.2.2.1, t.2.2.2.2⟩

theorem word_ahead {u : ℕ} (h : u + 9 < 128) : StepWord (Scalar.addi (BitVec.ofNat 32 u) 9#32) (u + 9) := by
  have e : Scalar.addi (BitVec.ofNat 32 u) 9#32 = BitVec.ofNat 32 (u + 9) := by
    show BitVec.ofNat 32 u + BitVec.ofNat 32 9 = _
    rw [BitVec.ofNat_add]
  rw [e]; exact word h

theorem back_table : ∀ u : Fin 128, 8 ≤ u.val → Scalar.subi (BitVec.ofNat 32 u.val) 8#32 = BitVec.ofNat 32 (u.val - 8) := by decide +kernel

theorem word_back {u : ℕ} (h : u < 128) (h8 : 8 ≤ u) : StepWord (Scalar.subi (BitVec.ofNat 32 u) 8#32) (u - 8) := by
  rw [back_table ⟨u, h⟩ h8]; exact word (by omega)

/-! ## The conditions on the step -/

theorem step_lt (i : grid0.Coords) : (i 0).val < 128 := (i 0).isLt

theorem cond1_table : ∀ u : Fin 128, Scalar.cmpi .ne (Scalar.extui (Scalar.cmpi .eq (BitVec.ofNat 32 u.val) 0#32) : BitVec 32) 0#32 = 1#1 ↔ u.val = 0 := by decide +kernel
theorem cond146_table : ∀ u : Fin 128, Scalar.cmpi .ne (Scalar.extui (Scalar.cmpi .slt (Scalar.addi (BitVec.ofNat 32 u.val) 9#32) 128#32) : BitVec 32) 0#32 = 1#1 ↔ u.val + 9 < 128 := by decide +kernel
theorem cond163_table : ∀ u : Fin 128, Scalar.cmpi .ne (Scalar.extui (Scalar.cmpi .sge (BitVec.ofNat 32 u.val) 8#32) : BitVec 32) 0#32 = 1#1 ↔ 8 ≤ u.val := by decide +kernel
theorem cond182_table : ∀ u : Fin 128, Scalar.cmpi .ne (Scalar.extui (Scalar.cmpi .eq (BitVec.ofNat 32 u.val) 127#32) : BitVec 32) 0#32 = 1#1 ↔ u.val = 127 := by decide +kernel

theorem cond1_iff (i : grid0.Coords) : k0_cond1 i = 1#1 ↔ (i 0).val = 0 := cond1_table (i 0)
theorem cond146_iff (i : grid0.Coords) : k0_cond146 i = 1#1 ↔ (i 0).val + 9 < 128 := cond146_table (i 0)
theorem cond163_iff (i : grid0.Coords) : k0_cond163 i = 1#1 ↔ 8 ≤ (i 0).val := cond163_table (i 0)
theorem cond182_iff (i : grid0.Coords) : k0_cond182 i = 1#1 ↔ (i 0).val = 127 := cond182_table (i 0)

section Rules

variable {c : Dev nD} {X : XBuf F} {N1 N2 : TBuf F} {a j n u k : ℕ} {w v : BitVec 32} {s : DmaSem sig} {off5 off3 : Fin 3 → ℕ}
  {i5 : ∀ a, off5 a + S1x256x128.size a ≤ S10x256x2048.size a}
  {i3 : ∀ a, off3 a + S1x256x128.size a ≤ S16x2048x2048.size a}

theorem cell_div (hk : k < 16) : (16 * u + k) / 16 = u := by omega
theorem cell_mod (hk : k < 16) : (16 * u + k) % 16 = k := by omega

theorem live_at (hk : k < 16) :
    Live N1 N2 (16 * u + k) ↔ liveW (BitVec.ofNat 32 u) (N1 (ix1 (u / 8))) (N2 (ix1 (u / 8))) (BitVec.ofNat 32 (128 * k)) = 1#1 := by
  unfold Live; rw [cell_div hk, cell_mod hk]

theorem sem_at (hk : k < 16) {off : Fin 2 → ℕ} (h : off = ![u % 10, k]) (inb : ∀ a, off a + S1x1.size a ≤ S10x16.size a) :
    (((cc0_scratch2 : DmaSems sig S10x16).slice (Rect.unit (s := S10x16) off S1x1.size inb)).squeeze S_ squeezes_S1x1_S_).sem = isem (16 * u + k) :=
  sem_in (by rw [cell_div hk, cell_mod hk]; exact h) inb

/-- The start of chunk `k` of step `u`, whose number the word `w` holds. -/
theorem start_at {O : sProp 𝕄} {w : BitVec 32} (hw : StepWord w u) {k' : ℕ} (hk' : k + 1 = k') (hk : k < 16) (hn : 16 * u + k < a + 160) (hj : j ≤ 16 * u)
    {v : BitVec 1} (hv : v = liveW w (N1 (ix1 (u / 8))) (N2 (ix1 (u / 8))) (BitVec.ofNat 32 (128 * k)))
    {off7 : Fin 2 → ℕ} (h7 : off7 = ![(Scalar.remsi w 10#32).toNat, k]) {i7 : ∀ a, off7 a + S1x1.size a ≤ S10x16.size a}
    (h5 : off5 = ![(Scalar.remsi w 10#32).toNat, 0, 128 * k])
    (h3 : off3 = ![(div8 w).toNat, (Scalar.muli (Scalar.remsi w 8#32) 256#32).toNat, 128 * k]) {p q r}
    {α : Type} {Q : α → sProp 𝕄} {K : Prog (TpuEff nD τ sig (Elt F) Λ₀ .tc) α}
    (hK : St c X N1 N2 a j (16 * u + k') O ⊢ Runs c K Q) :
    St c X N1 N2 a j (16 * u + k) O
      ⊢ Runs c (if v = 1#1 then Prog.lift (.enqueueDma (xChunk off3 i3) (.here (bChunk off5 i5))
          (.dma (((cc0_scratch2 : DmaSems sig S10x16).slice (Rect.unit (s := S10x16) off7 S1x1.size i7)).squeeze S_ squeezes_S1x1_S_).sem) p q r) >>= (fun _ => K) else K) Q := by
  subst hk'
  refine st_start rfl hn (by omega) ?_ (sem_at hk (by rw [h7, hw.slot]) _) ?_ ?_ hK
  · rw [live_at hk, hv, ← hw.eq]
  · rw [cell_div hk, cell_mod hk, h5, hw.slot]
  · rw [cell_div hk, cell_mod hk, h3, hw.quo, hw.row]

/-- The wait for chunk `k` of step `u`, whose number the word `w` holds. -/
theorem wait_at {O : sProp 𝕄} {w : BitVec 32} (hw : StepWord w u) {k' : ℕ} (hk' : k + 1 = k') (hk : k < 16) (hn : 16 * u + k < n) (ha : a ≤ 16 * u)
    {v : BitVec 1} (hv : v = liveW w (N1 (ix1 (u / 8))) (N2 (ix1 (u / 8))) (BitVec.ofNat 32 (128 * k)))
    {off7 : Fin 2 → ℕ} (h7 : off7 = ![(Scalar.remsi w 10#32).toNat, k]) {i7 : ∀ a, off7 a + S1x1.size a ≤ S10x16.size a}
    {srcw : Memref sig .tc .hbm S256x128 .f32} {p : srcw.view.WordExact} {q : (bChunk off5 i5).view.WordExact}
    {α : Type} {Q : α → sProp 𝕄} {K : Prog (TpuEff nD τ sig (Elt F) Λ₀ .tc) α}
    (hK : St c X N1 N2 a (16 * u + k') n O ⊢ Runs c K Q) :
    St c X N1 N2 a (16 * u + k) n O
      ⊢ Runs c (if v = 1#1 then Prog.lift (.waitDma2
          (((cc0_scratch2 : DmaSems sig S10x16).slice (Rect.unit (s := S10x16) off7 S1x1.size i7)).squeeze S_ squeezes_S1x1_S_).sem srcw (bChunk off5 i5) p q) >>= (fun _ => K) else K) Q := by
  subst hk'
  refine st_wait rfl hn (by omega) ?_ (sem_at hk (by rw [h7, hw.slot]) _) hK
  rw [live_at hk, hv, ← hw.eq]

/-- A table entry of step `u`'s batch, at the place the kernel computes from `w`. -/
theorem load1_at {O : sProp 𝕄} {w : BitVec 32} (hw : StepWord w u) {off : Fin 1 → ℕ} (h : off = ![(Scalar.indexCast (div8 w) : Index).toNat])
    {inb : ∀ a, off a + S1.size a ≤ S16.size a} {h1} {hp}
    {α : Type} {Q : α → sProp 𝕄} {K : Elt F .i32 → Prog (TpuEff nD τ sig (Elt F) Λ₀ .tc) α}
    (hK : St c X N1 N2 a j n O ⊢ Runs c (K (N1 (ix1 (u / 8)))) Q) :
    St c X N1 N2 a j n O ⊢ Runs c (smemLoad nM (Rect.unit (s := S16) off S1.size inb) h1 hp >>= K) Q :=
  st_load1 (by rw [h, hw.idx]) hK

theorem load2_at {O : sProp 𝕄} {w : BitVec 32} (hw : StepWord w u) {off : Fin 1 → ℕ} (h : off = ![(Scalar.indexCast (div8 w) : Index).toNat])
    {inb : ∀ a, off a + S1.size a ≤ S16.size a} {h1} {hp}
    {α : Type} {Q : α → sProp 𝕄} {K : Elt F .i32 → Prog (TpuEff nD τ sig (Elt F) Λ₀ .tc) α}
    (hK : St c X N1 N2 a j n O ⊢ Runs c (K (N2 (ix1 (u / 8)))) Q) :
    St c X N1 N2 a j n O ⊢ Runs c (smemLoad cM (Rect.unit (s := S16) off S1.size inb) h1 hp >>= K) Q :=
  st_load2 (by rw [h, hw.idx]) hK

end Rules

end Cert.Kernel.Hand
-- ==== Proof.Out.lean ====
/-
  The output ring: a slot while it is free and while its transfer is in flight, the rules for writing a slot, for
  starting its transfer and for waiting for it; and the reading of a whole slot of the input ring.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Transfers (Flight shareTokN shareDrop)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `r`, column `l` of a step's block. -/
def zix (r l : ℕ) : S1x256x2048.Idx := fun i => match i with
  | 0 => ⟨0, by decide⟩
  | 1 => ⟨r % 256, Nat.mod_lt _ (by decide)⟩
  | 2 => ⟨l % 2048, Nat.mod_lt _ (by decide)⟩

theorem zix_eq (z : S1x256x2048.Idx) {r l : ℕ} (h1 : (z 1).val = r) (h2 : (z 2).val = l) : z = zix r l := by
  have l0 : (z 0).val < 1 := (z 0).isLt
  have l1 : (z 1).val < 256 := (z 1).isLt
  have l2 : (z 2).val < 2048 := (z 2).isLt
  funext x; apply Fin.ext
  fin_cases x
  · show (z 0).val = 0; omega
  · show (z 1).val = r % 256; omega
  · show (z 2).val = l % 2048; omega

section Slots

variable (c : Dev nD) (G V : XBuf F)

/-- Step `u`'s block of the result, written. -/
def rdone (u : ℕ) : sProp 𝕄 := iprop(rL c ↦[rreg u]{fullShare} G)
/-- Step `u`'s block of the result before the kernel writes it. -/
def rraw (u : ℕ) : sProp 𝕄 := iprop(rL c ↦[rreg u]{fullShare} V)
/-- Step `u`'s slot of the output ring, at anything. -/
def oslot (u : ℕ) : sProp 𝕄 := iprop(∃ f : OBuf F, oL c ↦[oreg (u % 8)]{fullShare} f)
/-- The slot with its semaphore at zero. -/
def ofree (u : ℕ) : sProp 𝕄 := iprop(semVal ((c : Thread nD τ), SemLoc.dma (osem u)) 0 ∗ oslot c u)

/-- The amount that the transfer of a block signals. -/
def nOut : ℕ := sig.dmaCredit .tc ((Kind.tc).table .hbm) main_v0.idx S256x2048 .f32
theorem nOut_pos : 0 < nOut := by decide

/-- The slot while its transfer is in flight. -/
def oinfl (u : ℕ) : sProp 𝕄 :=
  iprop(Flight EC (c : Thread nD τ) (SemLoc.dma (osem u)) () nOut iprop(rdone c G u ∗ oslot c u))

variable {c G V}

theorem ofree_period (u : ℕ) : ofree (F := F) c (u + 8) = ofree c u := by
  have e : (u + 8) % 8 = u % 8 := by omega
  unfold ofree oslot osem
  simp only [e]

section Rules

variable {u : ℕ} {s : DmaSem sig} {off6 off4 : Fin 3 → ℕ}
  {i6 : ∀ a, off6 a + S1x256x2048.size a ≤ S8x256x2048.size a}
  {i4 : ∀ a, off4 a + S1x256x2048.size a ≤ S16x2048x2048.size a}

abbrev oChunk (off6 : Fin 3 → ℕ) (i6 : ∀ a, off6 a + S1x256x2048.size a ≤ S8x256x2048.size a) : Memref sig .tc .vmem S256x2048 .f32 :=
  (oM.slice (Rect.unit (s := S8x256x2048) off6 S1x256x2048.size i6) (fun _ => rfl)).squeeze S256x2048 squeezes_S1x256x2048_S256x2048
abbrev rChunk (off4 : Fin 3 → ℕ) (i4 : ∀ a, off4 a + S1x256x2048.size a ≤ S16x2048x2048.size a) : Memref sig .tc .hbm S256x2048 .f32 :=
  (rM.slice (Rect.unit (s := S16x2048x2048) off4 S1x256x2048.size i4) (fun _ => rfl)).squeeze S256x2048 squeezes_S1x256x2048_S256x2048

/-- What the transfer of a block writes. -/
theorem write_rblock (h6 : off6 = ![u % 8, 0, 0]) (h4 : off4 = ![u / 8, 256 * (u % 8), 0]) (f : OBuf F) (V : XBuf F)
    (hf : ∀ i ∈ oreg (u % 8), f i = xAt G u (i 1).val (i 2).val) :
    ∀ i ∈ rreg u, ((rChunk off4 i4).view.write (Elt F) V (ReadAs.same.apply ((oChunk off6 i6).view.read (Elt F) f)) Finset.univ) i = G i := by
  intro i hi
  rw [← set_rblock h4 i4 (fun _ => rfl)] at hi
  obtain ⟨z, -, rfl⟩ := Finset.mem_map.mp hi
  rw [View.write_emb_of_mem _ _ (Finset.mem_univ _)]
  show View.read (Elt F) (oChunk off6 i6).view f z = _
  rw [View.read_apply]
  have hm : (oChunk off6 i6).view.emb z ∈ oreg (u % 8) := by
    rw [← set_oslot h6 i6 (fun _ => rfl)]; exact Finset.mem_map_of_mem _ (Finset.mem_univ _)
  refine (hf _ hm).trans ?_
  subst h6; subst h4
  unfold xAt
  congr 1
  symm
  apply ix3_eq
  · have hz : (Shape.reshapeEquiv squeezes_S1x256x2048_S256x2048.numel_eq z 0).val < 1 := (Shape.reshapeEquiv squeezes_S1x256x2048_S256x2048.numel_eq z 0).isLt
    show u / 8 + 1 * (Shape.reshapeEquiv squeezes_S1x256x2048_S256x2048.numel_eq z 0).val = u / 8
    omega
  · show 256 * (u % 8) + 1 * (Shape.reshapeEquiv squeezes_S1x256x2048_S256x2048.numel_eq z 1).val
      = 256 * (u % 8) + (0 + 1 * (Shape.reshapeEquiv squeezes_S1x256x2048_S256x2048.numel_eq z 1).val)
    omega
  · rfl

theorem start_out (h : s = osem u) (h6 : off6 = ![u % 8, 0, 0]) (h4 : off4 = ![u / 8, 256 * (u % 8), 0]) {p q r} {f : OBuf F}
    (hf : ∀ i ∈ oreg (u % 8), f i = xAt G u (i 1).val (i 2).val)
    {α : Type} {Q : α → sProp 𝕄} {R : sProp 𝕄} {k : PUnit → Prog (TpuEff nD τ sig (Elt F) Λ₀ .tc) α}
    (hk : iprop(oinfl c G u ∗ R) ⊢ Runs c (k ⟨⟩) Q) :
    iprop((semVal ((c : Thread nD τ), SemLoc.dma (osem u)) 0 ∗ (oL c ↦[oreg (u % 8)]{fullShare} f) ∗ rraw c V u) ∗ R)
      ⊢ Runs c (Prog.lift (.enqueueDma (oChunk off6 i6) (.here (rChunk off4 i4)) (.dma s) p q r) >>= k) Q := by
  subst h
  have hd : (rChunk off4 i4).view.set = rreg u := set_rblock h4 i4 _
  have hs : (oChunk off6 i6).view.set = oreg (u % 8) := set_oslot h6 i6 _
  show _ ⊢ Runs c (.op (.enqueueDmaAs (oChunk off6 i6) (.here (rChunk off4 i4)) ReadAs.same (SemLoc.dma (osem u)) p q r) k) Q
  unfold Runs at hk ⊢
  unfold rraw
  iintro ⟨⟨Hs, Hf, Hx⟩, HR⟩
  have key := Transfers.wp_dmaLocal (defs := defs₀ (F := F)) (Q := Q) (k := k) (src := oChunk off6 i6) (via := ReadAs.same) (dst := rChunk off4 i4)
    (sm := SemLoc.dma (osem u)) (hsrc := p) (hdst := q) (hsem := r) (q := fullShare) (fs := f) (fd := V)
    EC Variants.none (c : Thread nD τ) none () nOut rfl nOut_pos (Sd := rreg u) (subset_of_eq hd)
  rw [hs] at key
  iapply key $$ [Hs Hf Hx]
  · isplitl [Hf]; · iexact Hf
    isplitl [Hx]; · iexact Hx
    iexact Hs
  iintro HF
  iapply hk
  isplitr [HR]
  · unfold oinfl
    iapply (Transfers.Flight_mono (h := ?_)) $$ HF
    unfold rdone oslot
    iintro ⟨Hd, Hx⟩
    isplitl [Hd]
    · rw [pointsTo_congr (write_rblock (G := G) (i4 := i4) (i6 := i6) h6 h4 f V hf)]
      exact BIBase.Entails.rfl
    iexists f; iexact Hx
  iexact HR

theorem wait_out (h : s = osem u) {srcw : Memref sig .tc .vmem S256x2048 .f32}
    {p : srcw.view.WordExact} {q : (rChunk off4 i4).view.WordExact}
    {α : Type} {Q : α → sProp 𝕄} {R : sProp 𝕄} {k : PUnit → Prog (TpuEff nD τ sig (Elt F) Λ₀ .tc) α}
    (hk : iprop(rdone c G u ∗ ofree c u ∗ (∃ W, owes (c : Thread nD τ) 0 W) ∗ R) ⊢ Runs c (k ⟨⟩) Q) :
    iprop(oinfl c G u ∗ (∃ W, owes (c : Thread nD τ) 0 W) ∗ R)
      ⊢ Runs c (Prog.lift (.waitDma2 s srcw (rChunk off4 i4) p q) >>= k) Q := by
  subst h
  show _ ⊢ Runs c (.op (.waitDma2 (osem u) srcw (rChunk off4 i4) p q) k) Q
  unfold Runs at hk ⊢
  unfold oinfl
  iintro ⟨HF, ⟨%W, HW⟩, HR⟩
  have key := Transfers.wp_waitLocal (defs := defs₀ (F := F)) (Q := Q) (k := k) (srcw := srcw) (dstw := rChunk off4 i4)
    (sem := osem u) (hsrc := p) (hdst := q) EC Variants.none (c : Thread nD τ) none () (N := nOut) rfl (D := iprop(rdone c G u ∗ oslot c u)) (W := W)
  iapply key $$ [HF HW]
  · isplitl [HF]; · iexact HF
    iexact HW
  iintro ⟨⟨Hd, Ho⟩, Hs, HW⟩
  iapply hk
  isplitl [Hd]; · iexact Hd
  isplitl [Hs Ho]
  · unfold ofree
    isplitl [Hs]; · iexact Hs
    iexact Ho
  isplitl [HW]; · iexists _; iexact HW
  iexact HR

end Rules

/-! ## The output ring -/

variable (c G V) in
/-- The output ring: the results up to `a` written, the transfers `[a, n)` in flight, the other slots free. -/
def Out (a n : ℕ) : sProp 𝕄 :=
  iprop(bigSep (Finset.Ico 0 a) (rdone c G) ∗ bigSep (Finset.Ico a n) (oinfl c G)
    ∗ bigSep (Finset.Ico n (a + 8)) (ofree c) ∗ bigSep (Finset.Ico n 128) (rraw c V))

variable (c G V) in
/-- The output ring with step `u`'s slot in hand, holding `f`. -/
def OutM (a u : ℕ) (f : OBuf F) : sProp 𝕄 :=
  iprop((semVal ((c : Thread nD τ), SemLoc.dma (osem u)) 0 ∗ (oL c ↦[oreg (u % 8)]{fullShare} f) ∗ rraw c V u)
    ∗ bigSep (Finset.Ico 0 a) (rdone c G) ∗ bigSep (Finset.Ico a u) (oinfl c G)
    ∗ bigSep (Finset.Ico (u + 1) (a + 8)) (ofree c) ∗ bigSep (Finset.Ico (u + 1) 128) (rraw c V))

theorem open_out {a u : ℕ} (h1 : u < a + 8) (h2 : u < 128) : Out c G V a u ⊢ iprop(∃ f, OutM c G V a u f) := by
  unfold Out
  rw [bigSep_bot h1, bigSep_bot h2 (rraw c V)]
  unfold ofree oslot
  iintro ⟨H1, H2, ⟨⟨Hs, ⟨%f, Hf⟩⟩, H3⟩, Hr, H4⟩
  iexists f
  unfold OutM ofree oslot
  isplitl [Hs Hf Hr]
  · isplitl [Hs]; · iexact Hs
    isplitl [Hf]; · iexact Hf
    iexact Hr
  isplitl [H1]; · iexact H1
  isplitl [H2]; · iexact H2
  isplitl [H3]; · iexact H3
  iexact H4

section Steps

variable {X : XBuf F} {N1 N2 : TBuf F} {ra rj rn a u : ℕ} {s : DmaSem sig} {off6 off4 : Fin 3 → ℕ} {f : OBuf F}
  {i6 : ∀ a, off6 a + S1x256x2048.size a ≤ S8x256x2048.size a}
  {i4 : ∀ a, off4 a + S1x256x2048.size a ≤ S16x2048x2048.size a}

theorem st_open {E : sProp 𝕄} (h1 : u < a + 8) (h2 : u < 128) {α : Type} {Q : α → sProp 𝕄} {k : Prog (TpuEff nD τ sig (Elt F) Λ₀ .tc) α}
    (hk : ∀ f, St c X N1 N2 ra rj rn iprop(OutM c G V a u f ∗ E) ⊢ Runs c k Q) :
    St c X N1 N2 ra rj rn iprop(Out c G V a u ∗ E) ⊢ Runs c k Q := by
  refine BIBase.Entails.trans (Q := iprop(∃ f, St c X N1 N2 ra rj rn iprop(OutM c G V a u f ∗ E))) (show _ ⊢ _ from ?_) (show _ ⊢ _ from ?_)
  · unfold St
    iintro ⟨H1, H2, H3, HO, HE⟩
    ihave H := (open_out h1 h2) $$ HO
    icases H with ⟨%f, H⟩
    iexists f
    isplitl [H1]; · iexact H1
    isplitl [H2]; · iexact H2
    isplitl [H3]; · iexact H3
    isplitl [H]; · iexact H
    iexact HE
  · iintro ⟨%f, H⟩
    iapply (hk f)
    iexact H

theorem st_start_out {E : sProp 𝕄} (hu : a ≤ u) (h : s = osem u) (h6 : off6 = ![u % 8, 0, 0]) (h4 : off4 = ![u / 8, 256 * (u % 8), 0]) {p q r}
    (hf : ∀ i ∈ oreg (u % 8), f i = xAt G u (i 1).val (i 2).val)
    {α : Type} {Q : α → sProp 𝕄} {k : PUnit → Prog (TpuEff nD τ sig (Elt F) Λ₀ .tc) α}
    (hk : St c X N1 N2 ra rj rn iprop(Out c G V a (u + 1) ∗ E) ⊢ Runs c (k ⟨⟩) Q) :
    St c X N1 N2 ra rj rn iprop(OutM c G V a u f ∗ E)
      ⊢ Runs c (Prog.lift (.enqueueDma (oChunk off6 i6) (.here (rChunk off4 i4)) (.dma s) p q r) >>= k) Q := by
  refine BIBase.Entails.trans (show _ ⊢ _ from ?_) (start_out (G := G) (V := V) (f := f) (R := iprop((bigSep (Finset.Ico 0 a) (rdone c G) ∗ bigSep (Finset.Ico a u) (oinfl c G)
    ∗ bigSep (Finset.Ico (u + 1) (a + 8)) (ofree c) ∗ bigSep (Finset.Ico (u + 1) 128) (rraw c V)) ∗ Ring c X N1 N2 ra rj rn ∗ Tabs c N1 N2 ∗ (∃ W, owes (c : Thread nD τ) 0 W) ∗ E))
    h h6 h4 hf (BIBase.Entails.trans (show _ ⊢ _ from ?_) hk))
  · unfold St OutM
    iintro ⟨HR, HT, HW, ⟨H0, H1⟩, HE⟩
    isplitl [H0]; · iexact H0
    isplitl [H1]; · iexact H1
    isplitl [HR]; · iexact HR
    isplitl [HT]; · iexact HT
    isplitl [HW]; · iexact HW
    iexact HE
  · unfold St Out
    rw [bigSep_top hu]
    iintro ⟨H0, ⟨H1, H2, H3, H4⟩, HR, HT, HW, HE⟩
    isplitl [HR]; · iexact HR
    isplitl [HT]; · iexact HT
    isplitl [HW]; · iexact HW
    isplitr [HE]
    · isplitl [H1]; · iexact H1
      isplitl [H0 H2]
      · isplitl [H0]; · iexact H0
        iexact H2
      isplitl [H3]; · iexact H3
      iexact H4
    iexact HE

theorem st_wait_out {E : sProp 𝕄} {n : ℕ} (h1 : u < n) (h2 : n ≤ u + 8) (h : s = osem u) {srcw : Memref sig .tc .vmem S256x2048 .f32}
    {p : srcw.view.WordExact} {q : (rChunk off4 i4).view.WordExact}
    {α : Type} {Q : α → sProp 𝕄} {k : PUnit → Prog (TpuEff nD τ sig (Elt F) Λ₀ .tc) α}
    (hk : St c X N1 N2 ra rj rn iprop(Out c G V (u + 1) n ∗ E) ⊢ Runs c (k ⟨⟩) Q) :
    St c X N1 N2 ra rj rn iprop(Out c G V u n ∗ E)
      ⊢ Runs c (Prog.lift (.waitDma2 s srcw (rChunk off4 i4) p q) >>= k) Q := by
  refine BIBase.Entails.trans (show _ ⊢ _ from ?_) (wait_out (G := G) (R := iprop((bigSep (Finset.Ico 0 u) (rdone c G) ∗ bigSep (Finset.Ico (u + 1) n) (oinfl c G)
    ∗ bigSep (Finset.Ico n (u + 8)) (ofree c) ∗ bigSep (Finset.Ico n 128) (rraw c V)) ∗ Ring c X N1 N2 ra rj rn ∗ Tabs c N1 N2 ∗ E))
    h (BIBase.Entails.trans (show _ ⊢ _ from ?_) hk))
  · unfold St Out
    rw [bigSep_bot h1 (oinfl c G)]
    iintro ⟨HR, HT, HW, ⟨H0, ⟨H1, H2⟩, H3⟩, HE⟩
    isplitl [H1]; · iexact H1
    isplitl [HW]; · iexact HW
    isplitl [H0 H2 H3]
    · isplitl [H0]; · iexact H0
      isplitl [H2]; · iexact H2
      iexact H3
    isplitl [HR]; · iexact HR
    isplitl [HT]; · iexact HT
    iexact HE
  · unfold St Out
    have e : u + 1 + 8 = u + 8 + 1 := by omega
    rw [bigSep_top (Nat.zero_le u) (rdone c G), e, bigSep_top h2 (ofree c), ofree_period]
    iintro ⟨Hd, Hf, HW, ⟨H1, H2, H3, H4⟩, HR, HT, HE⟩
    isplitl [HR]; · iexact HR
    isplitl [HT]; · iexact HT
    isplitl [HW]; · iexact HW
    isplitr [HE]
    · isplitl [Hd H1]
      · isplitl [Hd]; · iexact Hd
        iexact H1
      isplitl [H2]; · iexact H2
      isplitl [Hf H3]
      · isplitl [Hf]; · iexact Hf
        iexact H3
      iexact H4
    iexact HE

/-- A slot of the output ring, as a load or a store takes it. -/
theorem set_orect {b : ℕ} (h : off6 = ![b, 0, 0]) (i6 : ∀ a, off6 a + S1x256x2048.size a ≤ S8x256x2048.size a) :
    (oM.access (Rect.unit (s := S8x256x2048) off6 S1x256x2048.size i6)).set = oreg b := by
  refine (View.set_reshape _ squeezes_S1x256x2048_S256x2048.numel_eq).symm.trans (set_oslot h i6 (fun _ => rfl))

theorem st_oload {E : sProp 𝕄} (h6 : off6 = ![u % 8, 0, 0]) {p}
    {α : Type} {Q : α → sProp 𝕄} {k : Vec F S1x256x2048 .f32 → Prog (TpuEff nD τ sig (Elt F) Λ₀ .tc) α}
    (hk : ∀ w, St c X N1 N2 ra rj rn iprop(OutM c G V a u f ∗ E) ⊢ Runs c (k w) Q) :
    St c X N1 N2 ra rj rn iprop(OutM c G V a u f ∗ E)
      ⊢ Runs c (Prog.lift (.load oM (Rect.unit (s := S8x256x2048) off6 S1x256x2048.size i6).toLoadRect p) >>= k) Q := by
  have key := wp_load_rect (Γ := .nil) (defs := defs₀ (F := F)) (Q := Q) (k := k) (m := oM) (hl := p) (q := fullShare) (f := f)
    (r := Rect.unit (s := S8x256x2048) off6 S1x256x2048.size i6) Variants.none (c : Thread nD τ) none Set.univ
    (subset_of_eq (set_orect h6 i6))
  have hk' := hk ((oM.access (Rect.unit (s := S8x256x2048) off6 S1x256x2048.size i6)).read (Elt F) f)
  show _ ⊢ Runs c (.op (.load oM (Rect.unit (s := S8x256x2048) off6 S1x256x2048.size i6).toLoadRect p) k) Q
  unfold Runs at hk' ⊢
  unfold St OutM at hk' ⊢
  iintro ⟨HR, HT, HW, ⟨⟨Hs, Hf, Hr⟩, H1⟩, HE⟩
  iapply key $$ [Hf]
  · iexact Hf
  iintro Hf
  iapply hk'
  isplitl [HR]; · iexact HR
  isplitl [HT]; · iexact HT
  isplitl [HW]; · iexact HW
  isplitr [HE]
  · isplitl [Hs Hf Hr]
    · isplitl [Hs]; · iexact Hs
      isplitl [Hf]; · iexact Hf
      iexact Hr
    iexact H1
  iexact HE

theorem write_oslot (h6 : off6 = ![u % 8, 0, 0]) (f : OBuf F) (w : Vec F S1x256x2048 .f32) :
    ∀ i ∈ oreg (u % 8), ((oM.access (Rect.unit (s := S8x256x2048) off6 S1x256x2048.size i6)).write (Elt F) f w Finset.univ) i
      = w (zix (i 1).val (i 2).val) := by
  intro i hi
  rw [← set_orect h6 i6] at hi
  obtain ⟨z, -, rfl⟩ := Finset.mem_map.mp hi
  rw [View.write_emb_of_mem _ _ (Finset.mem_univ _)]
  subst h6
  refine congrArg w (zix_eq z ?_ ?_)
  · show (z 1).val = 0 + 1 * (z 1).val; omega
  · show (z 2).val = 0 + 1 * (z 2).val; omega

theorem st_ostore {E : sProp 𝕄} (h6 : off6 = ![u % 8, 0, 0]) {p q} {w : Vec F S1x256x2048 .f32}
    {α : Type} {Q : α → sProp 𝕄} {k : PUnit → Prog (TpuEff nD τ sig (Elt F) Λ₀ .tc) α}
    (hk : ∀ f' : OBuf F, (∀ i ∈ oreg (u % 8), f' i = w (zix (i 1).val (i 2).val)) →
      St c X N1 N2 ra rj rn iprop(OutM c G V a u f' ∗ E) ⊢ Runs c (k ⟨⟩) Q) :
    St c X N1 N2 ra rj rn iprop(OutM c G V a u f ∗ E)
      ⊢ Runs c (Prog.lift (.store oM (Rect.unit (s := S8x256x2048) off6 S1x256x2048.size i6) w Finset.univ p q) >>= k) Q := by
  have key := wp_store (Γ := .nil) (defs := defs₀ (F := F)) (Q := Q) (k := k) (m := oM) (hx := p) (hm := q) (f := f) (w := w)
    (r := Rect.unit (s := S8x256x2048) off6 S1x256x2048.size i6) Variants.none (c : Thread nD τ) none Set.univ
    (subset_of_eq (set_orect h6 i6))
  have hk' := hk ((oM.access (Rect.unit (s := S8x256x2048) off6 S1x256x2048.size i6)).write (Elt F) f w Finset.univ) (write_oslot h6 f w)
  show _ ⊢ Runs c (.op (.store oM (Rect.unit (s := S8x256x2048) off6 S1x256x2048.size i6) w Finset.univ p q) k) Q
  unfold Runs at hk' ⊢
  unfold St OutM at hk' ⊢
  iintro ⟨HR, HT, HW, ⟨⟨Hs, Hf, Hr⟩, H1⟩, HE⟩
  iapply key $$ [Hf]
  · iexact Hf
  iintro Hf
  iapply hk'
  isplitl [HR]; · iexact HR
  isplitl [HT]; · iexact HT
  isplitl [HW]; · iexact HW
  isplitr [HE]
  · isplitl [Hs Hf Hr]
    · isplitl [Hs]; · iexact Hs
      isplitl [Hf]; · iexact Hf
      iexact Hr
    iexact H1
  iexact HE

end Steps

/-! ## Reading a slot of the input ring -/

section Load

variable {X : XBuf F} {N1 N2 : TBuf F} {rn u : ℕ} {off5 : Fin 3 → ℕ}
  {i5 : ∀ a, off5 a + S1x256x2048.size a ≤ S10x256x2048.size a}

theorem bigSep_pair (S : Finset ℕ) (A B : ℕ → sProp 𝕄) :
    bigSep S (fun m => iprop(A m ∗ B m)) = iprop(bigSep S A ∗ bigSep S B) := bigSep_sep S A B

theorem bigSep_facts (S : Finset ℕ) (p : ℕ → Prop) (A : ℕ → sProp 𝕄) :
    bigSep S (fun m => iprop(⌜p m⌝ ∗ A m)) ⊢ iprop(⌜∀ m ∈ S, p m⌝ ∗ bigSep S A) := by
  classical
  induction S using Finset.induction_on with
  | empty =>
    have e : bigSep ∅ A = iprop(emp) := bigSep_empty
    rw [bigSep_empty, e]
    iintro H
    isplitr [H]
    · ipureintro; intro m hm; exact absurd hm (Finset.notMem_empty m)
    iexact H
  | insert m S hm ih =>
    have e : bigSep (insert m S) A = iprop(A m ∗ bigSep S A) := bigSep_insert hm
    rw [bigSep_insert hm, e]
    refine (sep_mono_right ih).trans (show _ ⊢ _ from ?_)
    iintro ⟨⟨%h1, H1⟩, %h2, H2⟩
    isplitr [H1 H2]
    · ipureintro; intro t ht
      rcases Finset.mem_insert.1 ht with rfl | ht
      · exact h1
      · exact h2 t ht
    isplitl [H1]; · iexact H1
    iexact H2

/-- Slot `b` of the input ring. -/
def bslot (b : ℕ) : Finset S10x256x2048.Idx := Finset.univ.filter fun i => (i 0).val = b

theorem bslot_eq (u : ℕ) : (Finset.Ico (16 * u) (16 * u + 16)).biUnion cellReg = bslot (u % 10) := by
  ext i
  have l2 : (i 2).val < 2048 := (i 2).isLt
  simp only [Finset.mem_biUnion, bslot, reg, Finset.mem_filter, Finset.mem_univ, true_and, Finset.mem_Ico]
  constructor
  · rintro ⟨m, hm, h0, -⟩; omega
  · intro h; exact ⟨16 * u + (i 2).val / 128, by omega, by omega, by omega, by omega⟩

theorem cells_disjoint (u : ℕ) : ∀ m ∈ Finset.Ico (16 * u) (16 * u + 16), ∀ m' ∈ Finset.Ico (16 * u) (16 * u + 16), m ≠ m' →
    Disjoint (cellReg m) (cellReg m') := by
  intro m hm m' hm' hne
  rw [Finset.mem_Ico] at hm hm'
  refine Finset.disjoint_left.2 fun i h h' => ?_
  simp only [reg, Finset.mem_filter, Finset.mem_univ, true_and] at h h'
  omega

theorem gather (hX : BBuf F) : bigSep (Finset.Ico (16 * u) (16 * u + 16)) (done c X N1 N2)
    ⊢ iprop((∃ g : BBuf F, ⌜∀ m ∈ Finset.Ico (16 * u) (16 * u + 16), Live N1 N2 m → Holds X m g⌝ ∗ bL c ↦[bslot (u % 10)]{fullShare} g)
      ∗ bigSep (Finset.Ico (16 * u) (16 * u + 16)) (fun m => iprop(semVal ((c : Thread nD τ), SemLoc.dma (isem m)) 0 ∗ xL c ↦{tok m} X))) := by
  have e : ∀ m, done c X N1 N2 m ⊢ iprop((∃ f : BBuf F, ⌜Live N1 N2 m → Holds X m f⌝ ∗ bL c ↦[cellReg m]{fullShare} f)
      ∗ (semVal ((c : Thread nD τ), SemLoc.dma (isem m)) 0 ∗ xL c ↦{tok m} X)) := by
    intro m
    unfold done
    iintro ⟨Hs, Hf, Hx⟩
    isplitl [Hf]; · iexact Hf
    isplitl [Hs]; · iexact Hs
    iexact Hx
  refine BIBase.Entails.trans (bigSep_mono fun m _ => e m) (show _ ⊢ _ from ?_)
  rw [bigSep_pair]
  haveI : Nonempty (BBuf F) := ⟨hX⟩
  refine sep_mono_l (BIBase.Entails.trans (bigSep_exists_pi _ _) (show _ ⊢ _ from ?_))
  iintro ⟨%fs, H⟩
  ihave H := (bigSep_facts _ (fun m => Live N1 N2 m → Holds X m (fs m)) (fun m => iprop(bL c ↦[cellReg m]{fullShare} (fs m)))) $$ H
  icases H with ⟨%hp, H⟩
  ihave H := (pointsTo_biUnion_join (ℓ := bL c) (q := fullShare) _ cellReg fs hX (cells_disjoint u)) $$ H
  icases H with ⟨%g, %hg, H⟩
  iexists g
  isplitr [H]
  · ipureintro
    intro m hm hl i hi
    rw [hg m hm i hi]; exact hp m hm hl i hi
  rw [← bslot_eq]
  iexact H

theorem scatter {g : BBuf F} (hg : ∀ m ∈ Finset.Ico (16 * u) (16 * u + 16), Live N1 N2 m → Holds X m g) :
    iprop((bL c ↦[bslot (u % 10)]{fullShare} g)
      ∗ bigSep (Finset.Ico (16 * u) (16 * u + 16)) (fun m => iprop(semVal ((c : Thread nD τ), SemLoc.dma (isem m)) 0 ∗ xL c ↦{tok m} X)))
    ⊢ bigSep (Finset.Ico (16 * u) (16 * u + 16)) (done c X N1 N2) := by
  rw [← bslot_eq, pointsTo_biUnion (ℓ := bL c) _ _ (cells_disjoint u), ← bigSep_pair]
  have e : ∀ m ∈ Finset.Ico (16 * u) (16 * u + 16), iprop((bL c ↦[cellReg m]{fullShare} g)
      ∗ (semVal ((c : Thread nD τ), SemLoc.dma (isem m)) 0 ∗ xL c ↦{tok m} X)) ⊢ done c X N1 N2 m := by
    intro m hm
    unfold done
    iintro ⟨Hf, Hs, Hx⟩
    isplitl [Hs]; · iexact Hs
    isplitl [Hf]
    · iexists g
      isplitr [Hf]
      · ipureintro; exact hg m hm
      iexact Hf
    iexact Hx
  exact bigSep_mono e

theorem set_brect {b : ℕ} (h : off5 = ![b, 0, 0]) (i5 : ∀ a, off5 a + S1x256x2048.size a ≤ S10x256x2048.size a) :
    (bM.access (Rect.unit (s := S10x256x2048) off5 S1x256x2048.size i5)).set = bslot b := by
  refine (View.set_slice_whole _ _).trans ?_
  subst h
  ext i
  have l1 : (i 1).val < 256 := (i 1).isLt
  have l2 : (i 2).val < 2048 := (i 2).isLt
  simp only [Rect.mem_set_unit, bslot, Finset.mem_filter, Finset.mem_univ, true_and]
  constructor
  · intro h
    have h0 := h 0
    change b ≤ (i 0).val ∧ (i 0).val < b + 1 at h0
    omega
  · intro h a
    fin_cases a
    · show b ≤ (i 0).val ∧ (i 0).val < b + 1; omega
    · show 0 ≤ (i 1).val ∧ (i 1).val < 0 + 256; omega
    · show 0 ≤ (i 2).val ∧ (i 2).val < 0 + 2048; omega

/-- What is read of the slot: the argument's block, at the chunks that were copied. -/
def Reads (X : XBuf F) (N1 N2 : TBuf F) (u : ℕ) (w : Vec F S1x256x2048 .f32) : Prop :=
  ∀ k < 16, Live N1 N2 (16 * u + k) → ∀ z : S1x256x2048.Idx, (z 2).val / 128 = k → w z = xAt X u (z 1).val (z 2).val

theorem st_xload {O : sProp 𝕄} (h5 : off5 = ![u % 10, 0, 0]) {p}
    {α : Type} {Q : α → sProp 𝕄} {k : Vec F S1x256x2048 .f32 → Prog (TpuEff nD τ sig (Elt F) Λ₀ .tc) α}
    (hk : ∀ w, Reads X N1 N2 u w → St c X N1 N2 (16 * u) (16 * u + 16) rn O ⊢ Runs c (k w) Q) :
    St c X N1 N2 (16 * u) (16 * u + 16) rn O
      ⊢ Runs c (Prog.lift (.load bM (Rect.unit (s := S10x256x2048) off5 S1x256x2048.size i5).toLoadRect p) >>= k) Q := by
  have hX : BBuf F := fun _ => X (ix3 0 0 0)
  show _ ⊢ Runs c (.op (.load bM (Rect.unit (s := S10x256x2048) off5 S1x256x2048.size i5).toLoadRect p) k) Q
  have key := fun f : BBuf F => wp_load_rect (Γ := .nil) (defs := defs₀ (F := F)) (Q := Q) (k := k) (m := bM) (hl := p) (q := fullShare) (f := f)
    (r := Rect.unit (s := S10x256x2048) off5 S1x256x2048.size i5) Variants.none (c : Thread nD τ) none Set.univ
    (subset_of_eq (set_brect h5 i5))
  have hr : ∀ f : BBuf F, (∀ m ∈ Finset.Ico (16 * u) (16 * u + 16), Live N1 N2 m → Holds X m f) →
      Reads X N1 N2 u ((bM.access (Rect.unit (s := S10x256x2048) off5 S1x256x2048.size i5)).read (Elt F) f) := by
    intro f hf kk hkk hl z hz
    have hm : (bM.access (Rect.unit (s := S10x256x2048) off5 S1x256x2048.size i5)).emb z ∈ cellReg (16 * u + kk) := by
      subst h5
      have l0 : (z 0).val < 1 := (z 0).isLt
      simp only [reg, Finset.mem_filter, Finset.mem_univ, true_and]
      refine ⟨?_, ?_, ?_⟩
      · show u % 10 + 1 * (z 0).val = _; omega
      · show _ ≤ 0 + 1 * (z 2).val; omega
      · show 0 + 1 * (z 2).val < _; omega
    rw [View.read_apply]
    refine (hf _ (Finset.mem_Ico.2 ⟨by omega, by omega⟩) hl _ hm).trans ?_
    subst h5
    have e0 : (16 * u + kk) / 16 = u := by omega
    have e1 : ((bM.access (Rect.unit (s := S10x256x2048) ![u % 10, 0, 0] S1x256x2048.size i5)).emb z 1).val = (z 1).val := by
      show 0 + 1 * (z 1).val = _; omega
    have e2 : ((bM.access (Rect.unit (s := S10x256x2048) ![u % 10, 0, 0] S1x256x2048.size i5)).emb z 2).val = (z 2).val := by
      show 0 + 1 * (z 2).val = _; omega
    rw [e0, e1, e2]
  unfold Runs at hk ⊢
  unfold St Ring at hk ⊢
  iintro ⟨⟨HD, HP⟩, HO⟩
  ihave HD := (gather hX) $$ HD
  icases HD with ⟨⟨%f, %hf, Hf⟩, HD⟩
  iapply (key f) $$ [Hf]
  · iexact Hf
  iintro Hf
  iapply (hk _ (hr f hf))
  isplitr [HO]
  · isplitr [HP]
    · iapply (scatter hf)
      isplitl [Hf]; · iexact Hf
      iexact HD
    iexact HP
  iexact HO

end Load

end Slots

end Cert.Kernel.Hand
-- ==== Proof.Block.lean ====
/-
  What the kernel writes: each step's block of the result as a function of the step's block of the argument and of its
  batch's two lengths, and why the parts of the input ring that no chunk filled do not matter.
-/
module

public import proofs.«01_k».proof.Proof.Out
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Step `u`'s block of the argument. -/
def xblk (X : XBuf F) (u : ℕ) : Vec F S1x256x2048 .f32 := fun z => xAt X u (z 1).val (z 2).val

/-- The first row of step `u`'s block, as the kernel computes it. -/
abbrev row0 (u : ℕ) : BitVec 32 := Scalar.muli (Scalar.remsi (BitVec.ofNat 32 u) 8#32) 256#32

/-- Step `u`'s block of the result. -/
def blk (X : XBuf F) (N1 N2 : TBuf F) (u : ℕ) : Vec F S1x256x2048 .f32 := by
  classical exact if Scalar.cmpi .sge (row0 u) (N1 (ix1 (u / 8))) = 1#1 then k0_pay1
    else k0_pay2 (BitVec.ofNat 32 u) (N1 (ix1 (u / 8))) (N2 (ix1 (u / 8))) (xblk X u)

/-- The result. -/
def res (X : XBuf F) (N1 N2 : TBuf F) : XBuf F := fun i =>
  blk X N1 N2 (8 * (i 0).val + (i 1).val / 256) (zix (i 1).val (i 2).val)

theorem res_at {X : XBuf F} {N1 N2 : TBuf F} {u r l : ℕ} (hu : u < 128) (hr : r < 256) (hl : l < 2048) :
    xAt (res X N1 N2) u r l = blk X N1 N2 u (zix r l) := by
  have e0 : 8 * (u / 8 % 16) + (256 * (u % 8) + r) % 2048 / 256 = u := by omega
  have e1 : zix ((256 * (u % 8) + r) % 2048) (l % 2048) = zix r l :=
    zix_eq _ (by show (256 * (u % 8) + r) % 2048 % 256 = r; omega) (by show l % 2048 % 2048 = l; omega)
  show blk X N1 N2 (8 * (u / 8 % 16) + (256 * (u % 8) + r) % 2048 / 256) (zix ((256 * (u % 8) + r) % 2048) (l % 2048)) = _
  rw [e0, e1]

theorem cmp_sge_slt (a b : BitVec 32) : Scalar.cmpi .sge a b = 1#1 ↔ ¬ Scalar.cmpi .slt a b = 1#1 := by
  show BitVec.ofBool (b.sle a) = 1#1 ↔ ¬ BitVec.ofBool (a.slt b) = 1#1
  rw [BitVec.sle_eq_not_slt]
  cases a.slt b <;> decide

theorem ext_iff (v : BitVec 1) : Scalar.cmpi .ne (Scalar.extui v : BitVec 32) 0#32 = 1#1 ↔ v = 1#1 := by
  revert v; decide +kernel

theorem and_one {a b : BitVec 1} (ha : a = 1#1) (hb : b = 1#1) : Scalar.andi a b = 1#1 := by
  subst ha; subst hb; decide

theorem toInt_small {l : ℕ} (hl : l < 2048) : (BitVec.ofNat 32 l).toInt = l := by
  have e : (BitVec.ofNat 32 l).toNat = l := by rw [BitVec.toNat_ofNat]; omega
  rw [BitVec.toInt_eq_toNat_of_lt (by rw [e]; omega), e]

theorem col_live {n : BitVec 32} {l : ℕ} (hl : l < 2048) (h : (BitVec.ofNat 32 l).slt n = true) :
    Scalar.cmpi .sgt n (BitVec.ofNat 32 (128 * (l / 128))) = 1#1 := by
  have h1 : (BitVec.ofNat 32 l).toInt = l := toInt_small (by omega)
  have h2 : (BitVec.ofNat 32 (128 * (l / 128))).toInt = (128 * (l / 128) : ℕ) := toInt_small (by omega)
  have h3 : (BitVec.ofNat 32 (128 * (l / 128))).slt n = true := by
    rw [BitVec.slt_iff_toInt_lt] at h ⊢
    rw [h1] at h; rw [h2]; omega
  show BitVec.ofBool ((BitVec.ofNat 32 (128 * (l / 128))).slt n) = 1#1
  rw [h3]; rfl

/-- The block computed from what was read is the block computed from the argument. -/
theorem pay2_reads {X : XBuf F} {N1 N2 : TBuf F} {u : ℕ} {w : Vec F S1x256x2048 .f32} (h : Reads X N1 N2 u w)
    (hr : Scalar.cmpi .slt (row0 u) (N1 (ix1 (u / 8))) = 1#1) :
    k0_pay2 (BitVec.ofNat 32 u) (N1 (ix1 (u / 8))) (N2 (ix1 (u / 8))) w
      = k0_pay2 (BitVec.ofNat 32 u) (N1 (ix1 (u / 8))) (N2 (ix1 (u / 8))) (xblk X u) := by
  have e : select (cmpi .slt (iota .tc S256x2048 32 [1] iota_S256x2048_d1_w32) (broadcast S256x2048 (N2 (ix1 (u / 8)))))
        (shapeCast S256x2048 w shapeCasts_S1x256x2048_S256x2048) (broadcast S256x2048 (Scalar.ofBits .f32 0xFF800000#32))
      = select (cmpi .slt (iota .tc S256x2048 32 [1] iota_S256x2048_d1_w32) (broadcast S256x2048 (N2 (ix1 (u / 8)))))
        (shapeCast S256x2048 (xblk X u) shapeCasts_S1x256x2048_S256x2048) (broadcast S256x2048 (Scalar.ofBits .f32 0xFF800000#32)) := by
    funext z
    have l0 : (z 0).val < 256 := (z 0).isLt
    have l1 : (z 1).val < 2048 := (z 1).isLt
    have e0 : ∀ x : Vec F S1x256x2048 .f32, shapeCast S256x2048 x shapeCasts_S1x256x2048_S256x2048 z = x (zix (z 0).val (z 1).val) := fun x =>
      shapeCast_apply x _ z (zix (z 0).val (z 1).val) (by
        rw [Shape.rowMajor_val_two, Shape.rowMajor_val_three]
        show (0 * 256 + (z 0).val % 256) * 2048 + (z 1).val % 2048 = (z 0).val * 2048 + (z 1).val
        omega)
    show (if BitVec.ofBool ((BitVec.ofNat 32 (0 * 2048 + (z 1).val)).slt (N2 (ix1 (u / 8)))) = 1#1 then _ else _)
      = (if BitVec.ofBool ((BitVec.ofNat 32 (0 * 2048 + (z 1).val)).slt (N2 (ix1 (u / 8)))) = 1#1 then _ else _)
    rw [Nat.zero_mul, Nat.zero_add, e0, e0]
    by_cases hc : (BitVec.ofNat 32 (z 1).val).slt (N2 (ix1 (u / 8))) = true
    · have hk : (z 1).val / 128 < 16 := by omega
      rw [h ((z 1).val / 128) hk ((live_at hk).2 ((ext_iff _).2 (and_one hr (col_live l1 hc)))) _
        (by show (z 1).val % 2048 / 128 = _; omega)]
      rfl
    · rw [if_neg, if_neg] <;> (intro e; revert e; cases h' : (BitVec.ofNat 32 (z 1).val).slt (N2 (ix1 (u / 8))) <;> [decide; exact absurd h' hc])
  unfold k0_pay2
  dsimp only
  rw [e]

end Cert.Kernel.Hand
-- ==== Proof.Finish.lean ====
/-
  The end of a step: the waits of the last step, the places of a step's block in the two rings, and the conditionals
  that choose between the two ways a block is written.
-/
module

public import proofs.«01_k».proof.Proof.Block

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem st_if_pos {c : Dev nD} {P : sProp 𝕄} {α : Type} {Q : α → sProp 𝕄} {v : BitVec 1}
    {p q : Prog (TpuEff nD τ sig (Elt F) Λ₀ .tc) α} (h : v = 1#1) (hk : P ⊢ Runs c p Q) : P ⊢ Runs c (if v = 1#1 then p else q) Q := by
  rw [if_pos h]; exact hk

theorem st_if_neg {c : Dev nD} {P : sProp 𝕄} {α : Type} {Q : α → sProp 𝕄} {v : BitVec 1}
    {p q : Prog (TpuEff nD τ sig (Elt F) Λ₀ .tc) α} (h : ¬ v = 1#1) (hk : P ⊢ Runs c q Q) : P ⊢ Runs c (if v = 1#1 then p else q) Q := by
  rw [if_neg h]; exact hk

/-! ## The last step's waits -/

/-- The output ring in the last step, once the transfers from `n` on have been waited for. -/
def OutD (c : Dev nD) (G : XBuf F) (n : ℕ) : sProp 𝕄 :=
  iprop(bigSep (Finset.Ico 0 120) (rdone c G) ∗ bigSep (Finset.Ico 120 n) (oinfl c G)
    ∗ bigSep (Finset.Ico n 128) (ofree c) ∗ bigSep (Finset.Ico n 128) (rdone c G))

theorem out_last (c : Dev nD) (G V : XBuf F) : Out c G V 120 128 ⊢ OutD c G 128 := by
  unfold Out OutD
  have e1 : bigSep (Finset.Ico 128 128) (rraw c V) = bigSep (Finset.Ico 128 128) (rdone c G) := by
    rw [Finset.Ico_self]; exact bigSep_empty.trans bigSep_empty.symm
  rw [e1]

theorem st_mono {c : Dev nD} {X : XBuf F} {N1 N2 : TBuf F} {ra rj rn : ℕ} {O O' : sProp 𝕄} (h : O ⊢ O') :
    St c X N1 N2 ra rj rn O ⊢ St c X N1 N2 ra rj rn O' := by
  unfold St
  exact sep_mono_right (sep_mono_right (sep_mono_right h))

theorem drain_table : ∀ j : Fin 8, Scalar.subi (BitVec.ofNat 32 127) (BitVec.ofNat 32 j.val) = BitVec.ofNat 32 (127 - j.val) := by decide +kernel

theorem word_drain {t : ℕ} (h : t = 127) (j : Fin 8) : StepWord (Scalar.subi (BitVec.ofNat 32 t) (BitVec.ofNat 32 j.val)) (127 - j.val) := by
  rw [h, drain_table j]; exact word (by omega)

theorem drain_at {c : Dev nD} {X G : XBuf F} {N1 N2 : TBuf F} {ra rj rn : ℕ} {E : sProp 𝕄} {w : BitVec 32} {u : ℕ} (hw : StepWord w u) (hu : 120 ≤ u) (hu' : u < 128)
    {off8 : Fin 1 → ℕ} (h8 : off8 = ![(Scalar.remsi w 8#32).toNat]) {i8 : ∀ a, off8 a + S1.size a ≤ S8.size a}
    {off4 : Fin 3 → ℕ} {i4 : ∀ a, off4 a + S1x256x2048.size a ≤ S16x2048x2048.size a}
    {srcw : Memref sig .tc .vmem S256x2048 .f32} {p : srcw.view.WordExact} {q : (rChunk off4 i4).view.WordExact}
    {α : Type} {Q : α → sProp 𝕄} {k : PUnit → Prog (TpuEff nD τ sig (Elt F) Λ₀ .tc) α}
    (hk : St c X N1 N2 ra rj rn iprop(OutD c G u ∗ E) ⊢ Runs c (k ⟨⟩) Q) :
    St c X N1 N2 ra rj rn iprop(OutD c G (u + 1) ∗ E)
      ⊢ Runs c (Prog.lift (.waitDma2 (((cc0_scratch3 : DmaSems sig S8).slice (Rect.unit (s := S8) off8 S1.size i8)).squeeze S_ squeezes_S1_S_).sem
          srcw (rChunk off4 i4) p q) >>= k) Q := by
  have h : (((cc0_scratch3 : DmaSems sig S8).slice (Rect.unit (s := S8) off8 S1.size i8)).squeeze S_ squeezes_S1_S_).sem = osem u :=
    sem_out (by rw [h8, hw.oslot]) _
  refine BIBase.Entails.trans (show _ ⊢ _ from ?_) (wait_out (G := G) (R := iprop((bigSep (Finset.Ico 0 120) (rdone c G) ∗ bigSep (Finset.Ico 120 u) (oinfl c G)
    ∗ bigSep (Finset.Ico (u + 1) 128) (ofree c) ∗ bigSep (Finset.Ico (u + 1) 128) (rdone c G)) ∗ Ring c X N1 N2 ra rj rn ∗ Tabs c N1 N2 ∗ E))
    h (BIBase.Entails.trans (show _ ⊢ _ from ?_) hk))
  · unfold St OutD
    rw [bigSep_top hu]
    iintro ⟨HR, HT, HW, ⟨H0, ⟨H1, H2⟩, H3⟩, HE⟩
    isplitl [H1]; · iexact H1
    isplitl [HW]; · iexact HW
    isplitl [H0 H2 H3]
    · isplitl [H0]; · iexact H0
      isplitl [H2]; · iexact H2
      iexact H3
    isplitl [HR]; · iexact HR
    isplitl [HT]; · iexact HT
    iexact HE
  · unfold St OutD
    rw [bigSep_bot hu' (rdone c G), bigSep_bot hu' (ofree c)]
    iintro ⟨Hd, Hf, HW, ⟨H1, H2, H3, H4⟩, HR, HT, HE⟩
    isplitl [HR]; · iexact HR
    isplitl [HT]; · iexact HT
    isplitl [HW]; · iexact HW
    isplitr [HE]
    · isplitl [H1]; · iexact H1
      isplitl [H2]; · iexact H2
      isplitl [Hf H3]
      · isplitl [Hf]; · iexact Hf
        iexact H3
      isplitl [Hd]; · iexact Hd
      iexact H4
    iexact HE

/-! ## The block's places in the rings -/

theorem cast_table : ∀ u : Fin 128, (Scalar.indexCast (Scalar.remsi (BitVec.ofNat 32 u.val) 8#32) : Index).toNat = u.val % 8
    ∧ (Scalar.indexCast (Scalar.remsi (BitVec.ofNat 32 u.val) 10#32) : Index).toNat = u.val % 10 := by decide +kernel

theorem off277_eq (i : grid0.Coords) : k0_off277 i = ![(i 0).val % 8, 0, 0] := by rw [← (cast_table (i 0)).1]; rfl
theorem off278_eq (i : grid0.Coords) : k0_off278 i = ![(i 0).val % 10, 0, 0] := by rw [← (cast_table (i 0)).2]; rfl
theorem off279_eq (i : grid0.Coords) : k0_off279 i = ![(i 0).val % 8, 0, 0] := by rw [← (cast_table (i 0)).1]; rfl

/-- What a store of step `u`'s block leaves in its slot. -/
theorem slot_holds {X : XBuf F} {N1 N2 : TBuf F} {u : ℕ} (hu : u < 128) {f : OBuf F} {w : Vec F S1x256x2048 .f32} (hw : w = blk X N1 N2 u)
    (hf : ∀ i ∈ oreg (u % 8), f i = w (zix (i 1).val (i 2).val)) :
    ∀ i ∈ oreg (u % 8), f i = xAt (res X N1 N2) u (i 1).val (i 2).val := by
  intro i hi
  rw [hf i hi, hw]
  exact (res_at hu (i 1).isLt (i 2).isLt).symm

end Cert.Kernel.Hand
-- ==== Proof.Ends.lean ====
/-
  The rings before the first step and after the last: whole buffers, whole shares and semaphores dealt out to the cells,
  and gathered again; and the turn of the input ring from one step to the next.
-/
module

public import proofs.«01_k».proof.Proof.Finish

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (shareTokN shareDrop)

variable {F : FTy → Type} [FloatOps F]

local notation "𝕄" => MT nD τ sig Unit (Elt F) ℕ (Pipeline.UD sig nD τ) ℕ

/-! ## Families of a period -/

theorem ico_join {a b d : ℕ} (h : a ≤ b) (h' : b ≤ d) (A : ℕ → sProp 𝕄) :
    bigSep (Finset.Ico a d) A = iprop(bigSep (Finset.Ico a b) A ∗ bigSep (Finset.Ico b d) A) :=
  by
    rw [← Finset.Ico_union_Ico_eq_Ico h h', bigSep_union (Finset.Ico_disjoint_Ico_consecutive a b d)]; rfl

theorem ico_empty (a : ℕ) (A : ℕ → sProp 𝕄) : bigSep (Finset.Ico a a) A = iprop(emp) := by
  rw [Finset.Ico_self]; exact bigSep_empty

theorem ico_shift {k : ℕ} {A : ℕ → sProp 𝕄} (h : ∀ m, A (m + k) = A m) (a b : ℕ) :
    bigSep (Finset.Ico (a + k) (b + k)) A = bigSep (Finset.Ico a b) A := by
  have e : Finset.Ico (a + k) (b + k) = (Finset.Ico a b).map ⟨fun m => m + k, fun _ _ h => Nat.add_right_cancel h⟩ := by
    ext m
    simp only [Finset.mem_map, Finset.mem_Ico]
    exact ⟨fun h => ⟨m - k, by omega, (show m - k + k = m by omega)⟩,
      fun ⟨m', h, h'⟩ => by have h' : m' + k = m := h'; omega⟩
  rw [e, Idealize.SL.BI.bigSep_map]
  exact congrArg (bigSep (Finset.Ico a b)) (funext h)

/-- A whole period of the family, from any place on. -/
theorem ico_rotate {k : ℕ} {A : ℕ → sProp 𝕄} (h : ∀ m, A (m + k) = A m) (a : ℕ) :
    bigSep (Finset.Ico a (a + k)) A = bigSep (Finset.Ico 0 k) A := by
  induction a with
  | zero => rw [Nat.zero_add]
  | succ a ih =>
    rw [← ih]
    rcases Nat.eq_zero_or_pos k with rfl | hk
    · simp only [Nat.add_zero]; rw [ico_empty, ico_empty]
    · rw [show a + 1 + k = (a + k) + 1 by omega, bigSep_top (show a + 1 ≤ a + k by omega), bigSep_bot (show a < a + k by omega), h]

/-! ## The turn of the input ring -/

variable {c : Dev nD} {X : XBuf F} {N1 N2 : TBuf F}

theorem ring_turn {a n : ℕ} (hn : n ≤ a + 160) :
    Ring c X N1 N2 a (a + 16) n ⊢ Ring c X N1 N2 (a + 16) (a + 16) n := by
  unfold Ring
  rw [ico_empty, ico_join hn (show a + 160 ≤ a + 16 + 160 by omega) (free c X), show a + 16 + 160 = (a + 16) + 160 by omega,
    ico_shift (free_period (c := c) (X := X)) a (a + 16)]
  have e : ∀ m, done c X N1 N2 m ⊢ free c X m := fun m => done_free
  iintro ⟨Hd, Hp, Hf⟩
  ihave Hd := (show bigSep (Finset.Ico a (a + 16)) (done c X N1 N2) ⊢ bigSep (Finset.Ico a (a + 16)) (free c X) from
    bigSep_mono fun m _ => e m) $$ Hd
  isplitr; · iempintro
  isplitl [Hp]; · iexact Hp
  isplitl [Hf]; · iexact Hf
  iexact Hd

/-! ## The input ring dealt out and gathered -/

theorem cells_cover : (Finset.Ico 0 160).biUnion cellReg = Finset.univ := by
  ext i
  have l0 : (i 0).val < 10 := (i 0).isLt
  have l2 : (i 2).val < 2048 := (i 2).isLt
  simp only [Finset.mem_biUnion, reg, Finset.mem_filter, Finset.mem_univ, true_and, Finset.mem_Ico, iff_true]
  exact ⟨16 * (i 0).val + (i 2).val / 128, by omega, by omega, by omega, by omega⟩

theorem cells_apart : ∀ m ∈ Finset.Ico 0 160, ∀ m' ∈ Finset.Ico 0 160, m ≠ m' → Disjoint (cellReg m) (cellReg m') := by
  intro m hm m' hm' hne
  rw [Finset.mem_Ico] at hm hm'
  refine Finset.disjoint_left.2 fun i h h' => ?_
  simp only [reg, Finset.mem_filter, Finset.mem_univ, true_and] at h h'
  omega

theorem slots_cover : (Finset.Ico 0 8).biUnion (fun u => oreg (u % 8)) = Finset.univ := by
  ext i
  have l0 : (i 0).val < 8 := (i 0).isLt
  simp only [Finset.mem_biUnion, oreg, Finset.mem_filter, Finset.mem_univ, true_and, Finset.mem_Ico, iff_true]
  exact ⟨(i 0).val, by omega, by omega⟩

theorem slots_apart : ∀ u ∈ Finset.Ico 0 8, ∀ u' ∈ Finset.Ico 0 8, u ≠ u' → Disjoint (oreg (u % 8)) (oreg (u' % 8)) := by
  intro m hm m' hm' hne
  rw [Finset.mem_Ico] at hm hm'
  refine Finset.disjoint_left.2 fun i h h' => ?_
  simp only [oreg, Finset.mem_filter, Finset.mem_univ, true_and] at h h'
  omega

theorem blocks_cover : (Finset.Ico 0 128).biUnion rreg = Finset.univ := by
  ext i
  have l0 : (i 0).val < 16 := (i 0).isLt
  have l1 : (i 1).val < 2048 := (i 1).isLt
  simp only [Finset.mem_biUnion, rreg, Finset.mem_filter, Finset.mem_univ, true_and, Finset.mem_Ico, iff_true]
  exact ⟨8 * (i 0).val + (i 1).val / 256, by omega, by omega, by omega, by omega⟩

theorem blocks_apart : ∀ u ∈ Finset.Ico 0 128, ∀ u' ∈ Finset.Ico 0 128, u ≠ u' → Disjoint (rreg u) (rreg u') := by
  intro m hm m' hm' hne
  rw [Finset.mem_Ico] at hm hm'
  refine Finset.disjoint_left.2 fun i h h' => ?_
  simp only [rreg, Finset.mem_filter, Finset.mem_univ, true_and] at h h'
  omega

/-- The cells' semaphores at zero. -/
def isems (c : Dev nD) : sProp 𝕄 := bigSep (Finset.Ico 0 160) fun m => semVal ((c : Thread nD τ), SemLoc.dma (isem m)) 0
/-- The output slots' semaphores at zero. -/
def osems (c : Dev nD) : sProp 𝕄 := bigSep (Finset.Ico 0 8) fun u => semVal ((c : Thread nD τ), SemLoc.dma (osem u)) 0

/-- What is left of the argument once every cell has its share. -/
abbrev xRest (c : Dev nD) (X : XBuf F) : sProp 𝕄 := iprop(xL c ↦{shareDrop fullShare 160} X)

theorem toks_eq (c : Dev nD) (X : XBuf F) :
    bigSep (Finset.Ico 0 160) (fun m => (iprop(xL c ↦{tok m} X) : sProp 𝕄))
      = bigSep (Finset.range 160) (fun m => iprop(xL c ↦{shareTokN fullShare m} X)) := by
  rw [Finset.range_eq_Ico]
  exact bigSep_congr fun m hm => by
    have : m % 160 = m := Nat.mod_eq_of_lt (Finset.mem_Ico.1 hm).2
    simp only [tok, this]

theorem cells_split (f : BBuf F) :
    iprop((bL c ↦{fullShare} f) ∗ isems c ∗ xL c ↦{fullShare} X)
      ⊢ iprop(bigSep (Finset.Ico 0 160) (free c X) ∗ xRest c X) := by
  have e : ∀ m, (iprop((bL c ↦[cellReg m]{fullShare} f) ∗ semVal ((c : Thread nD τ), SemLoc.dma (isem m)) 0 ∗ xL c ↦{tok m} X) : sProp 𝕄)
      ⊢ free c X m := by
    intro m
    unfold free
    iintro ⟨Hf, Hs, Hx⟩
    isplitl [Hs]; · iexact Hs
    isplitl [Hf]; · iexists f; iexact Hf
    iexact Hx
  refine BIBase.Entails.trans (Q := iprop(((bL c ↦{fullShare} f) ∗ isems c ∗ bigSep (Finset.range 160) (fun m => iprop(xL c ↦{shareTokN fullShare m} X)))
    ∗ xRest c X)) (show _ ⊢ _ from ?_) (sep_mono_l ?_)
  · iintro ⟨Hb, Hs, Hx⟩
    ihave Hx := (Transfers.pointsTo_toks_range fullShare 160).1 $$ Hx
    icases Hx with ⟨Hr, Hx⟩
    isplitr [Hr]; swap; · iexact Hr
    isplitl [Hb]; · iexact Hb
    isplitl [Hs]; · iexact Hs
    iexact Hx
  have e' : (bigSep (Finset.Ico 0 160) fun m => (iprop((bL c ↦[cellReg m]{fullShare} f) ∗ semVal ((c : Thread nD τ), SemLoc.dma (isem m)) 0
      ∗ xL c ↦{tok m} X) : sProp 𝕄)) ⊢ bigSep (Finset.Ico 0 160) (free c X) := bigSep_mono fun m _ => e m
  refine BIBase.Entails.trans (show _ ⊢ _ from ?_) e'
  rw [bigSep_pair, bigSep_pair, toks_eq, ← pointsTo_biUnion (ℓ := bL c) _ _ cells_apart, cells_cover]
  unfold isems
  exact BIBase.Entails.rfl

theorem cells_join (f₀ : BBuf F) (a : ℕ) :
    iprop(bigSep (Finset.Ico a (a + 160)) (free c X) ∗ xRest c X)
      ⊢ iprop((∃ f : BBuf F, bL c ↦{fullShare} f) ∗ isems c ∗ xL c ↦{fullShare} X) := by
  rw [ico_rotate (free_period (c := c) (X := X))]
  have e : ∀ m, free c X m ⊢ (iprop((∃ f : BBuf F, bL c ↦[cellReg m]{fullShare} f)
      ∗ semVal ((c : Thread nD τ), SemLoc.dma (isem m)) 0 ∗ xL c ↦{tok m} X) : sProp 𝕄) := by
    intro m
    unfold free
    iintro ⟨Hs, Hf, Hx⟩
    isplitl [Hf]; · iexact Hf
    isplitl [Hs]; · iexact Hs
    iexact Hx
  refine BIBase.Entails.trans (sep_mono_l (bigSep_mono fun m (_ : m ∈ Finset.Ico 0 160) => e m)) ?_
  rw [bigSep_pair, bigSep_pair, toks_eq]
  refine (show iprop(_ ∗ _) ⊢ _ from ?_)
  haveI : Nonempty (BBuf F) := ⟨f₀⟩
  iintro ⟨⟨Hb, Hs, Hx⟩, Hr⟩
  isplitl [Hb]
  · ihave Hb := (bigSep_exists_pi (Finset.Ico 0 160) fun m (f : BBuf F) => (iprop(bL c ↦[cellReg m]{fullShare} f) : sProp 𝕄)) $$ Hb
    icases Hb with ⟨%fs, Hb⟩
    ihave Hb := (pointsTo_biUnion_join (ℓ := bL c) (q := fullShare) _ cellReg fs f₀ cells_apart) $$ Hb
    icases Hb with ⟨%g, -, Hb⟩
    rw [cells_cover]
    iexists g; iexact Hb
  isplitl [Hs]; · unfold isems; iexact Hs
  iapply (Transfers.pointsTo_toks_range fullShare 160).2
  isplitl [Hr]; · iexact Hr
  iexact Hx

/-! ## The output ring and the result -/

theorem slots_split (f : OBuf F) :
    iprop((oL c ↦{fullShare} f) ∗ osems c) ⊢ bigSep (Finset.Ico 0 8) (ofree (F := F) c) := by
  have e : ∀ u, (iprop((oL c ↦[oreg (u % 8)]{fullShare} f) ∗ semVal ((c : Thread nD τ), SemLoc.dma (osem u)) 0) : sProp 𝕄) ⊢ ofree c u := by
    intro u
    unfold ofree oslot
    iintro ⟨Hf, Hs⟩
    isplitl [Hs]; · iexact Hs
    iexists f; iexact Hf
  refine BIBase.Entails.trans (show _ ⊢ _ from ?_) (bigSep_mono fun u (_ : u ∈ Finset.Ico 0 8) => e u)
  rw [bigSep_pair, ← pointsTo_biUnion (ℓ := oL c) _ (fun u => oreg (u % 8)) slots_apart, slots_cover]
  unfold osems
  exact BIBase.Entails.rfl

theorem slots_join (f₀ : OBuf F) (a : ℕ) :
    bigSep (Finset.Ico a (a + 8)) (ofree (F := F) c) ⊢ iprop((∃ f : OBuf F, oL c ↦{fullShare} f) ∗ osems c) := by
  rw [ico_rotate (ofree_period (F := F) (c := c))]
  have e : ∀ u, ofree (F := F) c u ⊢ (iprop((∃ f : OBuf F, oL c ↦[oreg (u % 8)]{fullShare} f)
      ∗ semVal ((c : Thread nD τ), SemLoc.dma (osem u)) 0) : sProp 𝕄) := by
    intro u
    unfold ofree oslot
    iintro ⟨Hs, Hf⟩
    isplitl [Hf]; · iexact Hf
    iexact Hs
  refine BIBase.Entails.trans (bigSep_mono fun u (_ : u ∈ Finset.Ico 0 8) => e u) (show _ ⊢ _ from ?_)
  rw [bigSep_pair]
  haveI : Nonempty (OBuf F) := ⟨f₀⟩
  iintro ⟨Hb, Hs⟩
  isplitl [Hb]
  · ihave Hb := (bigSep_exists_pi (Finset.Ico 0 8) fun u (f : OBuf F) => (iprop(oL c ↦[oreg (u % 8)]{fullShare} f) : sProp 𝕄)) $$ Hb
    icases Hb with ⟨%fs, Hb⟩
    ihave Hb := (pointsTo_biUnion_join (ℓ := oL c) (q := fullShare) _ (fun u => oreg (u % 8)) fs f₀ slots_apart) $$ Hb
    icases Hb with ⟨%g, -, Hb⟩
    rw [slots_cover]
    iexists g; iexact Hb
  unfold osems; iexact Hs

theorem blocks_eq (V : XBuf F) : bigSep (Finset.Ico 0 128) (fun u => (iprop(rL c ↦[rreg u]{fullShare} V) : sProp 𝕄)) = iprop(rL c ↦{fullShare} V) := by
  rw [← pointsTo_biUnion (ℓ := rL c) _ _ blocks_apart, blocks_cover]

/-- Before the first step: every slot free, no block written. -/
theorem out_first (G V : XBuf F) (f : OBuf F) :
    iprop((oL c ↦{fullShare} f) ∗ osems c ∗ rL c ↦{fullShare} V) ⊢ Out c G V 0 0 := by
  unfold Out
  rw [ico_empty, ico_empty]
  iintro ⟨Hf, Hs, Hr⟩
  isplitr; · iempintro
  isplitr; · iempintro
  isplitl [Hf Hs]
  · iapply (slots_split f)
    isplitl [Hf]; · iexact Hf
    iexact Hs
  unfold rraw
  rw [blocks_eq]; iexact Hr

/-- After the last: every slot free, every block written. -/
theorem out_done (G : XBuf F) (f₀ : OBuf F) :
    OutD c G 120 ⊢ iprop((∃ f : OBuf F, oL c ↦{fullShare} f) ∗ osems c ∗ rL c ↦{fullShare} G) := by
  unfold OutD
  rw [ico_empty]
  iintro ⟨Hd, -, Hf, Hd'⟩
  ihave Hf := (slots_join f₀ 120) $$ Hf
  icases Hf with ⟨Hf, Hs⟩
  isplitl [Hf]; · iexact Hf
  isplitl [Hs]; · iexact Hs
  rw [← blocks_eq G, ico_join (show 0 ≤ 120 by omega) (show 120 ≤ 128 by omega)]
  unfold rdone
  isplitl [Hd]; · iexact Hd
  iexact Hd'

/-! ## The semaphores -/

theorem sems_eq (c : Dev nD) :
    (bigSep Finset.univ fun j : Fin 168 => semVal ((c : Thread nD τ), (SemLoc.dma j : SemLoc sig)) 0 : sProp 𝕄) = iprop(isems c ∗ osems c) := by
  let A : ℕ → sProp 𝕄 := fun n => semVal ((c : Thread nD τ), (SemLoc.dma (⟨n % 168, Nat.mod_lt _ (by decide)⟩ : Fin 168) : SemLoc sig)) 0
  have h1 : (bigSep Finset.univ fun j : Fin 168 => semVal ((c : Thread nD τ), (SemLoc.dma j : SemLoc sig)) 0 : sProp 𝕄)
      = bigSep (Finset.Ico 0 168) A := by
    rw [← Finset.range_eq_Ico, ← Nat.Iio_eq_range, ← Fin.map_valEmbedding_univ, Idealize.SL.BI.bigSep_map]
    refine bigSep_congr fun j _ => ?_
    have : (⟨j.val % 168, Nat.mod_lt _ (by decide)⟩ : Fin 168) = j := Fin.ext (Nat.mod_eq_of_lt j.isLt)
    show _ = semVal ((c : Thread nD τ), (SemLoc.dma (⟨j.val % 168, _⟩ : Fin 168) : SemLoc sig)) 0
    rw [this]
  have h2 : bigSep (Finset.Ico 0 160) A = isems c := bigSep_congr fun m hm => by
    have hm := (Finset.mem_Ico.1 hm).2
    have : (⟨m % 168, Nat.mod_lt _ (by decide)⟩ : Fin 168) = isem m := Fin.ext (show m % 168 = m % 160 by omega)
    show semVal ((c : Thread nD τ), (SemLoc.dma (⟨m % 168, _⟩ : Fin 168) : SemLoc sig)) 0 = _
    rw [this]
  have h3 : bigSep (Finset.Ico 160 (160 + 8)) A = bigSep (Finset.Ico 160 (160 + 8)) fun u => semVal ((c : Thread nD τ), SemLoc.dma (osem u)) 0 :=
    bigSep_congr fun m hm => by
      have hm := Finset.mem_Ico.1 hm
      have : (⟨m % 168, Nat.mod_lt _ (by decide)⟩ : Fin 168) = osem m := Fin.ext (show m % 168 = 160 + m % 8 by omega)
      show semVal ((c : Thread nD τ), (SemLoc.dma (⟨m % 168, _⟩ : Fin 168) : SemLoc sig)) 0 = _
      rw [this]
  have h4 : ∀ m, (semVal ((c : Thread nD τ), SemLoc.dma (osem (m + 8))) 0 : sProp 𝕄) = semVal ((c : Thread nD τ), SemLoc.dma (osem m)) 0 := by
    intro m
    rw [show osem (m + 8) = osem m from Fin.ext (show 160 + (m + 8) % 8 = 160 + m % 8 by omega)]
  rw [h1, ico_join (show 0 ≤ 160 by omega) (show 160 ≤ 168 by omega), h2, h3, ico_rotate h4]
  rfl

end Cert.Kernel.Hand

end
-- ==== Proof.Prologue.lean ====
/-
  The first step's own part: it starts the chunks of the first nine steps.
-/
module

public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41

set_option maxRecDepth 100000 in
set_option maxHeartbeats 40000000 in
/-- The first 142 of the 144 starts, then the return of a row number. -/
theorem prologue (c : Dev nD) (X : XBuf F) (N1 N2 : TBuf F) (O : sProp 𝕄) (i : grid0.Coords) (h : k0_cond1 i = 1#1) {h1 h2 h3 h4 h5 h6}
    {α : Type} {Q : α → sProp 𝕄} {k : BitVec 32 → Prog (TpuEff nD τ sig (Elt F) Λ₀ .tc) α}
    (hk : St c X N1 N2 0 0 142 O ⊢ Runs c (k (Scalar.muli (Scalar.remsi 8#32 8#32) 256#32)) Q) :
    St c X N1 N2 0 0 0 O ⊢ Runs c (k0_part41 i nM h1 cM h2 xM h3 rM h4 bM h5 oM h6 cc0_scratch2 cc0_scratch3 h >>= k) Q := by
  refine st_seq ?_
  rw [k0_part41_eq_skeleton]
  unfold k0_part41_skel
  repeat (first
    | refine st_start (by simp only [Nat.reduceAdd]; rfl) (by omega) (by omega) Iff.rfl (sem_in rfl _) rfl rfl ?_
    | refine st_load1 rfl ?_
    | refine st_load2 rfl ?_
    | refine st_ret ?_
    | (with_reducible refine st_seq (F := F) (c := c) ?_); first
        | rw [k0_part1_eq_skeleton (F := F)]; unfold k0_part1_skel
        | rw [k0_part2_eq_skeleton (F := F)]; unfold k0_part2_skel
        | rw [k0_part3_eq_skeleton (F := F)]; unfold k0_part3_skel
        | rw [k0_part4_eq_skeleton (F := F)]; unfold k0_part4_skel
        | rw [k0_part5_eq_skeleton (F := F)]; unfold k0_part5_skel
        | rw [k0_part6_eq_skeleton (F := F)]; unfold k0_part6_skel
        | rw [k0_part7_eq_skeleton (F := F)]; unfold k0_part7_skel
        | rw [k0_part8_eq_skeleton (F := F)]; unfold k0_part8_skel
        | rw [k0_part9_eq_skeleton (F := F)]; unfold k0_part9_skel
        | rw [k0_part10_eq_skeleton (F := F)]; unfold k0_part10_skel
        | rw [k0_part11_eq_skeleton (F := F)]; unfold k0_part11_skel
        | rw [k0_part12_eq_skeleton (F := F)]; unfold k0_part12_skel
        | rw [k0_part13_eq_skeleton (F := F)]; unfold k0_part13_skel
        | rw [k0_part14_eq_skeleton (F := F)]; unfold k0_part14_skel
        | rw [k0_part15_eq_skeleton (F := F)]; unfold k0_part15_skel
        | rw [k0_part16_eq_skeleton (F := F)]; unfold k0_part16_skel
        | rw [k0_part17_eq_skeleton (F := F)]; unfold k0_part17_skel
        | rw [k0_part18_eq_skeleton (F := F)]; unfold k0_part18_skel
        | rw [k0_part19_eq_skeleton (F := F)]; unfold k0_part19_skel
        | rw [k0_part20_eq_skeleton (F := F)]; unfold k0_part20_skel
        | rw [k0_part21_eq_skeleton (F := F)]; unfold k0_part21_skel
        | rw [k0_part22_eq_skeleton (F := F)]; unfold k0_part22_skel
        | rw [k0_part23_eq_skeleton (F := F)]; unfold k0_part23_skel
        | rw [k0_part24_eq_skeleton (F := F)]; unfold k0_part24_skel
        | rw [k0_part25_eq_skeleton (F := F)]; unfold k0_part25_skel
        | rw [k0_part26_eq_skeleton (F := F)]; unfold k0_part26_skel
        | rw [k0_part27_eq_skeleton (F := F)]; unfold k0_part27_skel
        | rw [k0_part28_eq_skeleton (F := F)]; unfold k0_part28_skel
        | rw [k0_part29_eq_skeleton (F := F)]; unfold k0_part29_skel
        | rw [k0_part30_eq_skeleton (F := F)]; unfold k0_part30_skel
        | rw [k0_part31_eq_skeleton (F := F)]; unfold k0_part31_skel
        | rw [k0_part32_eq_skeleton (F := F)]; unfold k0_part32_skel
        | rw [k0_part33_eq_skeleton (F := F)]; unfold k0_part33_skel
        | rw [k0_part34_eq_skeleton (F := F)]; unfold k0_part34_skel
        | rw [k0_part35_eq_skeleton (F := F)]; unfold k0_part35_skel
        | rw [k0_part36_eq_skeleton (F := F)]; unfold k0_part36_skel
        | rw [k0_part37_eq_skeleton (F := F)]; unfold k0_part37_skel
        | rw [k0_part38_eq_skeleton (F := F)]; unfold k0_part38_skel
        | rw [k0_part39_eq_skeleton (F := F)]; unfold k0_part39_skel
        | rw [k0_part40_eq_skeleton (F := F)]; unfold k0_part40_skel)
  exact hk

end Cert.Kernel.Hand
-- ==== Proof.Head.lean ====
module

public import proofs.«01_k».proof.Proof.Prologue
public import proofs.«01_k».proof.Proof.Block

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68

/-- A conditional of the kernel with a block in it: what follows it runs from `P'`, and the block brings `P` there. -/
theorem st_dite {c : Dev nD} {P : sProp 𝕄} (P' : sProp 𝕄) {α : Type} {Q : α → sProp 𝕄} {v : BitVec 1}
    {p : v = 1#1 → Prog (TpuEff nD τ sig (Elt F) Λ₀ .tc) α} {q : Prog (TpuEff nD τ sig (Elt F) Λ₀ .tc) α}
    (hr : P' ⊢ Runs c q Q) (hn : v ≠ 1#1 → P ⊢ P') (hp : (P' ⊢ Runs c q Q) → ∀ h, P ⊢ Runs c (p h) Q) :
    P ⊢ Runs c (if h : v = 1#1 then p h else q) Q := by
  by_cases h : v = 1#1
  · rw [dif_pos h]; exact hp hr h
  · rw [dif_neg h]; exact (hn h).trans hr

set_option pp.maxSteps 600 in
set_option pp.deepTerms false in
set_option maxRecDepth 100000 in
set_option maxHeartbeats 40000000 in
theorem head (c : Dev nD) (X : XBuf F) (N1 N2 : TBuf F) (G V : XBuf F) (E : sProp 𝕄) (i : grid0.Coords) {h1 h2 h3 h4 h5 h6} {a n n' n'' : ℕ} {w : BitVec 32} (hw : w = BitVec.ofNat 32 (i 0).val)
    (h0 : (i 0).val = 0 → a = 0 ∧ n = 0 ∧ n' = 16 * 9) (h0' : (i 0).val ≠ 0 → n' = n) (ha : a = 16 * (i 0).val)
    (hs : (i 0).val + 9 < 128 → n' = 16 * ((i 0).val + 9) + 0 ∧ n'' = 16 * ((i 0).val + 9) + 16)
    (hs' : ¬ (i 0).val + 9 < 128 → n'' = n')
    {Q : _ → sProp 𝕄}
    (hQ : St c X N1 N2 a a n'' iprop(Out c G V ((i 0).val + 1 - 8) (i 0).val ∗ E) ⊢ Q ⟨w, Scalar.remsi w 10#32, Scalar.remsi w 8#32,
      Scalar.cmpi .slt (Scalar.muli (Scalar.remsi w 8#32) 256#32) (N1 (ix1 ((i 0).val / 8))), Scalar.cmpi .sgt (N2 (ix1 ((i 0).val / 8))) 0#32⟩) :
    St c X N1 N2 a a n iprop(Out c G V ((i 0).val - 8) (i 0).val ∗ E) ⊢ Runs c (k0_part57 i nM h1 cM h2 xM h3 rM h4 bM h5 oM h6 cc0_scratch2 cc0_scratch3) Q := by
  have hlt := step_lt i
  rw [k0_part57_eq_skeleton]
  unfold k0_part57_skel
  refine st_dite (St c X N1 N2 a a n' iprop(Out c G V ((i 0).val - 8) (i 0).val ∗ E)) ?_ ?_ ?_
  rotate_left
  · intro h
    rw [h0' (fun e => h ((cond1_iff i).2 e))]
  · intro hr h
    obtain ⟨rfl, rfl, rfl⟩ := h0 ((cond1_iff i).1 h)
    refine prologue c X N1 N2 _ i h ?_
    repeat (first
      | with_reducible exact hr
      | refine st_start (by simp only [Nat.reduceAdd]; rfl) (by omega) (by omega) Iff.rfl (sem_in rfl _) rfl rfl ?_
      | refine st_load1 rfl ?_
      | refine st_load2 rfl ?_)
  refine st_dite (St c X N1 N2 a a n'' iprop(Out c G V ((i 0).val - 8) (i 0).val ∗ E)) ?_ ?_ ?_
  rotate_left
  · intro h
    rw [hs' (fun e => h ((cond146_iff i).2 e))]
  · intro hr h
    have hlt9 := (cond146_iff i).1 h
    have hw9 := word_ahead hlt9
    obtain ⟨rfl, rfl⟩ := hs hlt9
    subst ha
    repeat (first
      | with_reducible exact hr
      | refine start_at hw9 (by simp only [Nat.reduceAdd]; rfl) (by omega) (by omega) (by omega) rfl rfl rfl rfl ?_
      | refine load1_at hw9 rfl ?_
      | refine load2_at hw9 rfl ?_
      | refine st_ret ?_
      | (with_reducible refine st_seq (F := F) (c := c) ?_); first
        | rw [k0_part42_eq_skeleton (F := F)]; unfold k0_part42_skel
        | rw [k0_part43_eq_skeleton (F := F)]; unfold k0_part43_skel
        | rw [k0_part44_eq_skeleton (F := F)]; unfold k0_part44_skel
        | rw [k0_part45_eq_skeleton (F := F)]; unfold k0_part45_skel
        | rw [k0_part46_eq_skeleton (F := F)]; unfold k0_part46_skel
        | rw [k0_part47_eq_skeleton (F := F)]; unfold k0_part47_skel
        | rw [k0_part48_eq_skeleton (F := F)]; unfold k0_part48_skel
        | rw [k0_part49_eq_skeleton (F := F)]; unfold k0_part49_skel
        | rw [k0_part50_eq_skeleton (F := F)]; unfold k0_part50_skel
        | rw [k0_part51_eq_skeleton (F := F)]; unfold k0_part51_skel)
  refine st_dite (St c X N1 N2 a a n'' iprop(Out c G V ((i 0).val + 1 - 8) (i 0).val ∗ E)) ?_ ?_ ?_
  rotate_left
  · intro h
    have h8 : ¬ 8 ≤ (i 0).val := fun e => h ((cond163_iff i).2 e)
    have e : (i 0).val + 1 - 8 = (i 0).val - 8 := by omega
    rw [e]
  · intro hr h
    have h8 := (cond163_iff i).1 h
    have hb := word_back hlt h8
    have hw := word hlt
    have e : (i 0).val + 1 - 8 = (i 0).val - 8 + 1 := by omega
    have e8 : (i 0).val % 8 = ((i 0).val - 8) % 8 := by omega
    rw [e] at hr
    have h4 : k0_off210 i = ![((i 0).val - 8) / 8, 256 * (((i 0).val - 8) % 8), 0] := by rw [← hb.quo, ← hb.row]; rfl
    have h7 : k0_off209 i = ![((i 0).val - 8) % 8] := by rw [← e8, ← hw.oslot]; rfl
    refine st_wait_out (by omega) (by omega) (sem_out h7 _) ?_
    first
      | exact hr
      | refine st_ret ?_
        exact hr
  refine load1_at (word hlt) rfl ?_
  refine load2_at (word hlt) rfl ?_
  subst hw
  exact st_ret hQ

end Cert.Kernel.Hand
-- ==== Proof.Drain.lean ====
/-
  The waits of the last step, part by part of the kernel as printed.
-/
module

public import proofs.«01_k».proof.Proof.Finish

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] OutD Out OutM St

set_option maxRecDepth 100000

section Drain

variable {c : Dev nD} {X G : XBuf F} {N1 N2 : TBuf F} {ra rj rn : ℕ} {i : grid0.Coords} {h1 h2 h3 h4 h5 h6} {w : BitVec 32}

theorem drain52 {E : sProp 𝕄} (h : (i 0).val = 127) {hc} {Q : _ → sProp 𝕄}
    (hQ : ∀ v, St c X N1 N2 ra rj rn iprop(OutD c G 127 ∗ E) ⊢ Q v) :
    St c X N1 N2 ra rj rn iprop(OutD c G 128 ∗ E)
      ⊢ Runs c (k0_part52 (F := F) i nM h1 cM h2 xM h3 rM h4 bM h5 oM h6 cc0_scratch2 cc0_scratch3 w hc) Q := by
  rw [k0_part52_eq_skeleton]; unfold k0_part52_skel
  refine drain_at (u := 127) (word_drain h 0) (by decide) (by decide) rfl ?_
  exact st_ret (hQ _)

theorem drain53 {E : sProp 𝕄} (h : (i 0).val = 127) {hc} {v545 : BitVec 32} {c8_i32_207 : BitVec 32} {v548 : BitVec 32} {v553 : BitVec 32} {c0_i32_210 : BitVec 32} {Q : _ → sProp 𝕄}
    (hQ : ∀ v, St c X N1 N2 ra rj rn iprop(OutD c G 126 ∗ E) ⊢ Q v) :
    St c X N1 N2 ra rj rn iprop(OutD c G 127 ∗ E)
      ⊢ Runs c (k0_part53 (F := F) i nM h1 cM h2 xM h3 rM h4 bM h5 oM h6 cc0_scratch2 cc0_scratch3 w hc v545 c8_i32_207 v548 v553 c0_i32_210) Q := by
  rw [k0_part53_eq_skeleton]; unfold k0_part53_skel
  refine drain_at (u := 126) (word_drain h 1) (by decide) (by decide) rfl ?_
  exact st_ret (hQ _)

theorem drain54 {E : sProp 𝕄} (h : (i 0).val = 127) {hc} {v593 : BitVec 32} {Q : _ → sProp 𝕄}
    (hQ : ∀ v, St c X N1 N2 ra rj rn iprop(OutD c G 124 ∗ E) ⊢ Q v) :
    St c X N1 N2 ra rj rn iprop(OutD c G 126 ∗ E)
      ⊢ Runs c (k0_part54 (F := F) i nM h1 cM h2 xM h3 rM h4 bM h5 oM h6 cc0_scratch2 cc0_scratch3 w hc v593) Q := by
  rw [k0_part54_eq_skeleton]; unfold k0_part54_skel
  refine drain_at (u := 125) (word_drain h 2) (by decide) (by decide) rfl ?_
  refine drain_at (u := 124) (word_drain h 3) (by decide) (by decide) rfl ?_
  exact st_ret (hQ _)

theorem drain55 {E : sProp 𝕄} (h : (i 0).val = 127) {hc} {v629 : BitVec 32} {v630 : BitVec 32} {Q : _ → sProp 𝕄}
    (hQ : ∀ v, St c X N1 N2 ra rj rn iprop(OutD c G 123 ∗ E) ⊢ Q v) :
    St c X N1 N2 ra rj rn iprop(OutD c G 124 ∗ E)
      ⊢ Runs c (k0_part55 (F := F) i nM h1 cM h2 xM h3 rM h4 bM h5 oM h6 cc0_scratch2 cc0_scratch3 w hc v629 v630) Q := by
  rw [k0_part55_eq_skeleton]; unfold k0_part55_skel
  refine drain_at (u := 123) (word_drain h 4) (by decide) (by decide) rfl ?_
  exact st_ret (hQ _)

theorem drain56 {E : sProp 𝕄} (h : (i 0).val = 127) {hc} {v657 : BitVec 32} {c8_i32_263 : BitVec 32} {v660 : BitVec 32} {v665 : BitVec 32} {v667 : BitVec 32} {v668 : BitVec 1} {Q : _ → sProp 𝕄}
    (hQ : ∀ v, St c X N1 N2 ra rj rn iprop(OutD c G 122 ∗ E) ⊢ Q v) :
    St c X N1 N2 ra rj rn iprop(OutD c G 123 ∗ E)
      ⊢ Runs c (k0_part56 (F := F) i nM h1 cM h2 xM h3 rM h4 bM h5 oM h6 cc0_scratch2 cc0_scratch3 w hc v657 c8_i32_263 v660 v665 v667 v668) Q := by
  rw [k0_part56_eq_skeleton]; unfold k0_part56_skel
  refine drain_at (u := 122) (word_drain h 5) (by decide) (by decide) rfl ?_
  exact st_ret (hQ _)

end Drain

end Cert.Kernel.Hand
-- ==== Proof.Body.lean ====
/-
  One step of the kernel, from the rings as the step finds them to the rings as it leaves them.
-/
module

public import proofs.«01_k».proof.Proof.Head
public import proofs.«01_k».proof.Proof.Drain

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] OutD Out OutM St k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68

set_option maxRecDepth 100000
set_option maxHeartbeats 40000000

/-- A step of the kernel. -/
theorem body (c : Dev nD) (X : XBuf F) (N1 N2 : TBuf F) (V : XBuf F) (E : sProp 𝕄) (i : grid0.Coords) {h1 h2 h3 h4 h5 h6} {a n n' n'' : ℕ}
    (h0 : (i 0).val = 0 → a = 0 ∧ n = 0 ∧ n' = 16 * 9) (h0' : (i 0).val ≠ 0 → n' = n) (ha : a = 16 * (i 0).val)
    (hs : (i 0).val + 9 < 128 → n' = 16 * ((i 0).val + 9) + 0 ∧ n'' = 16 * ((i 0).val + 9) + 16)
    (hs' : ¬ (i 0).val + 9 < 128 → n'' = n') (hn : 16 * (i 0).val + 16 ≤ n'')
    {Q : PUnit → sProp 𝕄}
    (hQ : (i 0).val ≠ 127 → St c X N1 N2 a (a + 16) n'' iprop(Out c (res X N1 N2) V ((i 0).val + 1 - 8) ((i 0).val + 1) ∗ E) ⊢ Q ⟨⟩)
    (hQ' : (i 0).val = 127 → St c X N1 N2 a (a + 16) n'' iprop(OutD c (res X N1 N2) 120 ∗ E) ⊢ Q ⟨⟩) :
    St c X N1 N2 a a n iprop(Out c (res X N1 N2) V ((i 0).val - 8) (i 0).val ∗ E)
      ⊢ Runs c (cc0__body i nM h1 cM h2 xM h3 rM h4 bM h5 oM h6 cc0_scratch2 cc0_scratch3) Q := by
  have hlt := step_lt i
  have hw := word hlt
  rw [cc0__body_eq_skeleton]; unfold cc0__body_skel
  with_reducible refine st_seq (F := F) (c := c) ?_
  refine head c X N1 N2 (res X N1 N2) V E i rfl h0 h0' ha hs hs' ?_
  subst ha
  clear h0 h0' hs hs'
  have e : St c X N1 N2 (16 * (i 0).val) (16 * (i 0).val) n'' iprop(Out c (res X N1 N2) V ((i 0).val + 1 - 8) (i 0).val ∗ E) = St c X N1 N2 (16 * (i 0).val) (16 * (i 0).val + 0) n'' iprop(Out c (res X N1 N2) V ((i 0).val + 1 - 8) (i 0).val ∗ E) := rfl
  rw [e]
  clear e
  repeat (first
    | refine wait_at hw (by simp only [Nat.reduceAdd]; rfl) (by omega) (by omega) (by omega) rfl rfl ?_
    | refine load1_at hw rfl ?_
    | refine load2_at hw rfl ?_
    | refine st_ret ?_
    | (with_reducible refine st_seq (F := F) (c := c) ?_); first
      | rw [k0_part58_eq_skeleton (F := F)]; unfold k0_part58_skel
      | rw [k0_part59_eq_skeleton (F := F)]; unfold k0_part59_skel
      | rw [k0_part60_eq_skeleton (F := F)]; unfold k0_part60_skel
      | rw [k0_part61_eq_skeleton (F := F)]; unfold k0_part61_skel
      | rw [k0_part62_eq_skeleton (F := F)]; unfold k0_part62_skel
      | rw [k0_part63_eq_skeleton (F := F)]; unfold k0_part63_skel
      | rw [k0_part64_eq_skeleton (F := F)]; unfold k0_part64_skel
      | rw [k0_part65_eq_skeleton (F := F)]; unfold k0_part65_skel
      | rw [k0_part66_eq_skeleton (F := F)]; unfold k0_part66_skel
      | rw [k0_part67_eq_skeleton (F := F)]; unfold k0_part67_skel
      | rw [k0_part68_eq_skeleton (F := F)]; unfold k0_part68_skel)
  -- what follows the writing of the block
  have h7 : k0_off280 i = ![(i 0).val % 8] := by rw [← hw.oslot]; rfl
  have h6 : k0_off282 i = ![(i 0).val % 8, 0, 0] := by rw [← hw.oslot]; rfl
  have h4 : k0_off281 i = ![(i 0).val / 8, 256 * ((i 0).val % 8), 0] := by rw [← hw.quo, ← hw.row]; rfl
  refine st_open (by omega) (by omega) fun f0 => ?_
  by_cases hg : Scalar.cmpi .sge (row0 (i 0).val) (N1 (ix1 ((i 0).val / 8))) = 1#1
  case' pos =>
    refine st_if_pos ((ext_iff _).2 hg) ?_
    refine st_oload (off277_eq i) fun w0 => ?_
    refine st_ostore (off277_eq i) fun f1 hf1 => ?_
    refine st_if_neg (fun e => (cmp_sge_slt _ _).1 hg ((ext_iff _).1 e)) ?_
    have hf := slot_holds (X := X) (N1 := N1) (N2 := N2) hlt (by unfold blk; rw [if_pos hg]) hf1
  case' neg =>
    have hl := Decidable.of_not_not (fun e => hg ((cmp_sge_slt _ _).2 e))
    refine st_if_neg (fun e => hg ((ext_iff _).1 e)) ?_
    refine st_if_pos ((ext_iff _).2 hl) ?_
    refine st_xload (off278_eq i) fun w0 hw0 => ?_
    refine st_oload (off279_eq i) fun w1 => ?_
    refine st_ostore (off279_eq i) fun f1 hf1 => ?_
    have hf := slot_holds (X := X) (N1 := N1) (N2 := N2) hlt (by unfold blk; rw [if_neg hg]; exact pay2_reads hw0 hl) hf1
  all_goals
    refine st_ret ?_
    refine st_start_out (by omega) (sem_out h7 (k0_off280_inb i)) h6 h4 hf ?_
    by_cases h : (i 0).val = 127
    · have hd : St c X N1 N2 (16 * (i 0).val) (16 * (i 0).val + 16) n'' iprop(Out c (res X N1 N2) V ((i 0).val + 1 - 8) ((i 0).val + 1) ∗ E)
          ⊢ St c X N1 N2 (16 * (i 0).val) (16 * (i 0).val + 16) n'' iprop(OutD c (res X N1 N2) 128 ∗ E) := by
        rw [h]
        exact st_mono (sep_mono_l (out_last c _ V))
      refine hd.trans ?_
      refine (BIBase.Entails.trans (show _ ⊢ Runs c (if h : k0_cond182 i = 1#1 then _ else _) Q from ?_) BIBase.Entails.rfl)
      rw [dif_pos ((cond182_iff i).2 h)]
      with_reducible refine st_seq (F := F) (c := c) ?_
      refine drain52 h ?_
      rintro ⟨_, _, _, _, _⟩
      with_reducible refine st_seq (F := F) (c := c) ?_
      refine drain53 h ?_
      rintro _
      with_reducible refine st_seq (F := F) (c := c) ?_
      refine drain54 h ?_
      rintro ⟨_, _⟩
      with_reducible refine st_seq (F := F) (c := c) ?_
      refine drain55 h ?_
      rintro ⟨_, _, _, _, _, _⟩
      with_reducible refine st_seq (F := F) (c := c) ?_
      refine drain56 h ?_
      rintro _
      refine drain_at (u := 121) (word_drain h 6) (by decide) (by decide) rfl ?_
      refine drain_at (u := 120) (word_drain h 7) (by decide) (by decide) rfl ?_
      exact st_ret (hQ' h)
    · refine (BIBase.Entails.trans (show _ ⊢ Runs c (if h : k0_cond182 i = 1#1 then _ else _) Q from ?_) BIBase.Entails.rfl)
      rw [dif_neg (fun e => h ((cond182_iff i).1 e))]
      exact st_ret (hQ h)

end Cert.Kernel.Hand
-- ==== Proof.Run.lean ====
/-
  The kernel's run: the invariant between the steps, its ends, and what the memory holds when the program has ended.
-/
module

public import proofs.«01_k».proof.Proof.Ends
public import proofs.«01_k».proof.Proof.Body
public import proofs.«01_k».proof.Proof.Gen.Kernel.Launch
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

attribute [local irreducible] OutD Out St cc0__body

/-! ## The invariant -/

section Invariant

variable (c : Dev nD) (X : XBuf F) (N1 N2 : TBuf F) (V : XBuf F)

/-- How many chunks have been started before step `n`. -/
def started (n : ℕ) : ℕ := if n = 0 then 0 else 16 * min (n + 9) 128

/-- The output ring before step `n`; after the last step, drained. -/
def outAt (n : ℕ) : sProp 𝕄 := if n = 128 then OutD c (res X N1 N2) 120 else Out c (res X N1 N2) V (n - 8) n

/-- What no step touches. -/
def rest : sProp 𝕄 := iprop((∃ r, prngReg c r) ∗ xRest c X)

/-- What the kernel holds before step `n`. -/
def phi (n : ℕ) : sProp 𝕄 :=
  iprop(Ring c X N1 N2 (16 * n) (16 * n) (started n) ∗ Tabs c N1 N2 ∗ outAt c X N1 N2 V n ∗ rest c X)

/-- The record of the waits. -/
abbrev waits : sProp 𝕄 := iprop(∃ W, owes (c : Thread nD τ) 0 W)

variable {c X N1 N2 V}

theorem phi_next {n n'' : ℕ} (hn : n < 128) (h : n'' = 16 * min (n + 10) 128) {O : sProp 𝕄} (hO : O ⊢ outAt c X N1 N2 V (n + 1)) :
    St c X N1 N2 (16 * n) (16 * n + 16) n'' iprop(O ∗ rest c X) ⊢ iprop(phi c X N1 N2 V (n + 1) ∗ waits c) := by
  have e : started (n + 1) = n'' := by unfold started; rw [if_neg (by omega), h]
  unfold St phi
  rw [e, show 16 * (n + 1) = 16 * n + 16 by omega]
  iintro ⟨HR, HT, HW, HO, HE⟩
  isplitr [HW]; swap; · iexact HW
  isplitl [HR]
  · iapply (ring_turn (show n'' ≤ 16 * n + 160 by omega)); iexact HR
  isplitl [HT]; · iexact HT
  isplitl [HO]; · iapply hO; iexact HO
  iexact HE

theorem step {n : ℕ} (hn : n < 128) (i : grid0.Coords) (hi : (i 0).val = n) {h1 h2 h3 h4 h5 h6} :
    iprop(phi c X N1 N2 V n ∗ waits c)
      ⊢ Runs c (cc0__body i nM h1 cM h2 xM h3 rM h4 bM h5 oM h6 cc0_scratch2 cc0_scratch3)
          fun _ => iprop(phi c X N1 N2 V (n + 1) ∗ waits c) := by
  subst hi
  have hb := body c X N1 N2 V (rest c X) i (h1 := h1) (h2 := h2) (h3 := h3) (h4 := h4) (h5 := h5) (h6 := h6)
    (a := 16 * (i 0).val) (n := started (i 0).val) (n' := 16 * min ((i 0).val + 9) 128) (n'' := 16 * min ((i 0).val + 10) 128)
    (Q := fun _ => iprop(phi c X N1 N2 V ((i 0).val + 1) ∗ waits c))
    (fun h => by unfold started; rw [if_pos h]; omega) (fun h => by unfold started; rw [if_neg h]) rfl
    (fun h => by omega) (fun h => by omega) (by omega)
    (fun h => phi_next hn rfl (by unfold outAt; rw [if_neg (by omega)]))
    (fun h => phi_next hn rfl (by unfold outAt; rw [if_pos (by omega)]))
  refine BIBase.Entails.trans (show _ ⊢ _ from ?_) hb
  unfold phi outAt St
  rw [if_neg (by omega)]
  iintro ⟨⟨HR, HT, HO, HE⟩, HW⟩
  isplitl [HR]; · iexact HR
  isplitl [HT]; · iexact HT
  isplitl [HW]; · iexact HW
  isplitl [HO]; · iexact HO
  iexact HE

/-- Before the first step. -/
theorem phi_first (f : BBuf F) (g : OBuf F) :
    iprop((bL c ↦{fullShare} f) ∗ (oL c ↦{fullShare} g) ∗ (∃ r, prngReg c r) ∗ isems c ∗ osems c
        ∗ (xL c ↦{fullShare} X) ∗ (rL c ↦{fullShare} V) ∗ Tabs c N1 N2)
      ⊢ phi c X N1 N2 V 0 := by
  unfold phi outAt started rest Ring
  rw [if_pos (rfl : (0 : ℕ) = 0), if_neg (by decide : ¬ (0 : ℕ) = 128), ico_empty, ico_empty]
  iintro ⟨Hb, Ho, Hg, Hi, Hs, Hx, Hr, HT⟩
  ihave H := (cells_split (c := c) (X := X) f) $$ [Hb Hi Hx]
  · isplitl [Hb]; · iexact Hb
    isplitl [Hi]; · iexact Hi
    iexact Hx
  icases H with ⟨Hf, Hx⟩
  isplitl [Hf]
  · isplitr; · iempintro
    isplitr; · iempintro
    iexact Hf
  isplitl [HT]; · iexact HT
  isplitl [Ho Hs Hr]
  · iapply (out_first (c := c) (res X N1 N2) V g)
    isplitl [Ho]; · iexact Ho
    isplitl [Hs]; · iexact Hs
    iexact Hr
  isplitl [Hg]; · iexact Hg
  iexact Hx

/-- After the last step. -/
theorem phi_last (f : BBuf F) (g : OBuf F) :
    phi c X N1 N2 V 128
      ⊢ iprop(((∃ f : BBuf F, bL c ↦{fullShare} f) ∗ (∃ g : OBuf F, oL c ↦{fullShare} g)) ∗ (∃ r, prngReg c r) ∗ (isems c ∗ osems c)
        ∗ (xL c ↦{fullShare} X) ∗ (rL c ↦{fullShare} res X N1 N2)) := by
  unfold phi outAt started rest Ring
  rw [if_pos (rfl : (128 : ℕ) = 128), if_neg (by decide : ¬ (128 : ℕ) = 0), ico_empty, show 16 * min (128 + 9) 128 = 16 * 128 by omega, ico_empty]
  iintro ⟨⟨-, -, Hf⟩, -, HO, Hg, Hx⟩
  ihave H := (cells_join (c := c) (X := X) f (16 * 128)) $$ [Hf Hx]
  · isplitl [Hf]; · iexact Hf
    iexact Hx
  icases H with ⟨Hb, Hi, Hx⟩
  ihave H := (out_done (c := c) (res X N1 N2) g) $$ HO
  icases H with ⟨Ho, Hs, Hr⟩
  isplitl [Hb Ho]
  · isplitl [Hb]; · iexact Hb
    iexact Ho
  isplitl [Hg]; · iexact Hg
  isplitl [Hi Hs]
  · isplitl [Hi]; · iexact Hi
    iexact Hs
  isplitl [Hx]; · iexact Hx
  iexact Hr

end Invariant

/-! ## The launch -/

section Launch

variable (m : (ℓ : Loc nD τ sig) → Buf (Elt F) ℓ) (ρ : Dev nD → PrngReg)

/-- The tables as the pipeline finds them. -/
def tables : pre0.Contents (Elt F) := fun k => m (((0 : Dev nD) : Thread nD τ).loc (pre0.ref k))

def adm (_ : Fin 1) : (pcfg0 (F := F)).Adm := ⟨tables m, trivial⟩

abbrev entry (c : Dev nD) (b : Ref sig .tc) : Buf (Elt F) ((c : Thread nD τ).loc b) := m ((c : Thread nD τ).loc b)

/-- What the result holds at the end, as a function of what the memory held at the start. -/
abbrev outcome (c : Dev nD) : XBuf F := res (m (xL c)) (m (nL c)) (m (cL c))

def exitAt (c : Dev nD) (b : Ref sig .tc) : Buf (Elt F) ((c : Thread nD τ).loc b) := by
  classical exact if h : b = main_v0 then h ▸ outcome m c else m ((c : Thread nD τ).loc b)

theorem exitAt_v0 (c : Dev nD) : exitAt m c main_v0 = outcome m c := by
  classical exact dif_pos rfl

def dats (p : Fin 1) (c : Dev nD) : Pipeline.Dat τ (Elt F) Unit ℕ (Pipeline.UD sig nD τ) ℕ (Pipeline.pin (pcfgs (F := F)) (adm m) p) c where
  A w := w.elim0
  after w := w.elim0
  Φ t := phi c (m (xL c)) (m (nL c)) (m (cL c)) (m (rL c)) t.val
  q w := w.elim0
  owed _ := 0

/-- The semaphores of the kernel. -/
abbrev sems (j : Fin 168) : SemLoc sig := SemLoc.dma j

theorem sems_facts : Pipeline.OwnSemFacts spec0 sems where
  isScoped := by decide +kernel
  inj := fun _ _ h => SemLoc.dma.inj h
  disj := fun _ w => w.elim0

theorem coords_val : ∀ t : Fin grid0.N, (grid0.coords t 0).val = t.val := by decide +kernel

theorem body_obligation (c : Dev nD) : Pipeline.BodyObligationLoose (dats m 0 c) (defs₀ (F := F)) Variants.none () Set.univ := by
  intro t
  have hs := step (c := c) (X := m (xL c)) (N1 := m (nL c)) (N2 := m (cL c)) (V := m (rL c)) (n := t.val)
    (lt_of_lt_of_eq t.isLt N_0) (grid0.coords t) (coords_val t)
    (h1 := Memref.isWhole_whole _) (h2 := Memref.isWhole_whole _) (h3 := Memref.isWhole_whole _) (h4 := Memref.isWhole_whole _)
    (h5 := Memref.isWhole_whole _) (h6 := Memref.isWhole_whole _)
  unfold Runs at hs
  have hrow : defs₀ (F := F) .tc (cfg0 (adm m 0)).body ((cfg0 (adm m 0)).bodyArgs t ((cfg0 (adm m 0)).slots t))
      = cc0__body (grid0.coords t) nM (Memref.isWhole_whole _) cM (Memref.isWhole_whole _) xM (Memref.isWhole_whole _) rM (Memref.isWhole_whole _)
          bM (Memref.isWhole_whole _) oM (Memref.isWhole_whole _) cc0_scratch2 cc0_scratch3 := by
    unfold defs₀; rw [Defs.onTc_tc]
  have none_held : ∀ A : Fin 0 → sProp 𝕄, bigSep Finset.univ A = iprop(emp) := fun A => by rw [Finset.univ_eq_empty]; exact bigSep_empty
  have howes : ∀ k, (dats m 0 c).owesAt () k ⊢ waits c := fun k => by
    unfold Pipeline.Dat.owesAt Pipeline.owesWithin
    iintro ⟨%W, -, HW⟩; iexists W; iexact HW
  have howes' : ∀ k, waits c ⊢ (dats m 0 c).owesAt () k := fun k => by
    unfold Pipeline.Dat.owesAt Pipeline.owesWithin
    iintro ⟨%W, HW⟩; iexists W; isplitr
    · ipureintro; exact fun _ _ => Or.inl trivial
    iexact HW
  have e1 : (dats m 0 c).Φ t.castSucc = phi c (m (xL c)) (m (nL c)) (m (cL c)) (m (rL c)) t.val := rfl
  have e2 : (dats m 0 c).Φ t.succ = phi c (m (xL c)) (m (nL c)) (m (cL c)) (m (rL c)) (t.val + 1) := rfl
  refine triple_restated hs (congrArg (fun p => wp frame (wpE (defs₀ (F := F)) Variants.none (c : Thread nD τ) none) Set.univ p) hrow.symm) ?_ fun _ => ?_
  · rw [e1]
    iintro ⟨HΦ, HW, -⟩
    isplitl [HΦ]; · iexact HΦ
    iapply (howes t.castSucc); iexact HW
  · rw [e2]
    iintro ⟨HΦ, HW⟩
    isplitl [HΦ]; · iexact HΦ
    isplitl [HW]; · iapply (howes' t.succ); iexact HW
    refine BIBase.Entails.trans ?_ (BIBase.Entails.of_eq (none_held _).symm)
    iintro -; iempintro

theorem tables_held (c : Dev nD) : (Pipeline.ΦT pre0 (tables m) c : sProp 𝕄) ⊢ Tabs c (m (nL c)) (m (cL c)) := by
  obtain rfl : c = 0 := Subsingleton.elim _ _
  unfold Pipeline.ΦT Pipeline.prefHeld Tabs
  rw [bigSep_univ_two]
  exact BIBase.Entails.rfl

/-- What the launch hands over and takes back, by name. -/
theorem launch_parts (W : (c : Dev nD) → (b : Ref sig .tc) → Buf (Elt F) ((c : Thread nD τ).loc b)) (c : Dev nD) :
    (Pipeline.ΦDRG sems spec0 {main_arg0} {main_v0} (entry m) W c : sProp 𝕄)
      = iprop(((∃ f : BBuf F, bL c ↦{fullShare} f) ∗ (∃ g : OBuf F, oL c ↦{fullShare} g)) ∗ (∃ r, prngReg c r) ∗ (isems c ∗ osems c)
        ∗ (xL c ↦{fullShare} m (xL c)) ∗ (rL c ↦{fullShare} W c main_v0)) := by
  rw [Pipeline.ΦDRG_eq, scopedRest0_eq]
  unfold Pipeline.ownSems0 Pipeline.routed
  rw [sems_eq, bigSep_singleton, bigSep_singleton]
  rfl

theorem entered (c : Dev nD) :
    iprop(Pipeline.ΦDRG sems spec0 {main_arg0} {main_v0} (entry m) (entry m) c ∗ Pipeline.ΦT pre0 (tables m) c) ⊢ (dats m 0 c).Φ 0 := by
  have e : (dats m 0 c).Φ 0 = phi c (m (xL c)) (m (nL c)) (m (cL c)) (m (rL c)) 0 := rfl
  rw [launch_parts, e]
  iintro ⟨⟨⟨⟨%f, Hb⟩, %g, Ho⟩, Hg, ⟨Hi, Hs⟩, Hx, Hr⟩, HT⟩
  iapply (phi_first (c := c) (X := m (xL c)) (N1 := m (nL c)) (N2 := m (cL c)) (V := m (rL c)) f g)
  isplitl [Hb]; · iexact Hb
  isplitl [Ho]; · iexact Ho
  isplitl [Hg]; · iexact Hg
  isplitl [Hi]; · iexact Hi
  isplitl [Hs]; · iexact Hs
  isplitl [Hx]; · iexact Hx
  isplitl [Hr]; · iexact Hr
  iapply (tables_held m c); iexact HT

theorem left (c : Dev nD) :
    (dats m 0 c).Φ (Fin.last grid0.N) ⊢ Pipeline.ΦDRG sems spec0 {main_arg0} {main_v0} (entry m) (exitAt m) c := by
  have e : (dats m 0 c).Φ (Fin.last grid0.N) = phi c (m (xL c)) (m (nL c)) (m (cL c)) (m (rL c)) grid0.N := rfl
  rw [launch_parts, e, N_0, exitAt_v0]
  exact phi_last (fun _ => (m (xL c)) (ix3 0 0 0)) (fun _ => (m (xL c)) (ix3 0 0 0))

/-- At the end the result holds what the kernel computes of the arguments, the arguments are as they were and every semaphore is at zero. -/
def Ended (r : PUnit × MemSt nD τ sig (Elt F)) : Prop :=
  (∀ c : Dev nD, r.2.mem (rL c) = outcome m c ∧ r.2.mem (xL c) = m (xL c) ∧ r.2.mem (nL c) = m (nL c) ∧ r.2.mem (cL c) = m (cL c))
    ∧ r.2.sem = fun _ => 0

theorem ended {r : PUnit × MemSt nD τ sig (Elt F)}
    (h : Pipeline.FramePostRG (Pipeline.pin (pcfgs (F := F)) (adm m)) (dats m) 0 {main_v0} (entry m) (exitAt m) r ∧ r.2.sem = fun _ => 0) :
    Ended m r := by
  refine ⟨fun c => ⟨?_, ?_, ?_, ?_⟩, h.2⟩
  · exact ((h.1.2 c main_v0 (Finset.mem_singleton_self _)).trans (exitAt_v0 m c))
  · exact (h.1.1 c).2 main_arg0 (show main_arg0 ∈ Pipeline.restRefs sig spec0 \ {main_v0} by decide)
  · exact (h.1.1 c).2 main_arg1 (show main_arg1 ∈ Pipeline.restRefs sig spec0 \ {main_v0} by decide)
  · exact (h.1.1 c).2 main_arg2 (show main_arg2 ∈ Pipeline.restRefs sig spec0 \ {main_v0} by decide)

theorem run : θ_run defs (onTc (τ := τ) (main (F := F))) (s₀ m ρ) (Ended m) :=
  Pipeline.θ_run_frameP_dmaRG (pcfgs (F := F)) (adm m) (dats m) (0 : Fin 1) launch0 sems defs₀ Variants.none sems_facts {main_arg0} {main_v0}
    (show {main_arg0} ⊆ Pipeline.restRefsP sig pre0 spec0 by decide) (show {main_v0} ⊆ Pipeline.restRefsP sig pre0 spec0 \ {main_arg0} by decide) m ρ main
    (hbody := body_obligation m) (hshare := fun c w => w.elim0) (howed := fun _ _ => rfl) (V := entry m)
    (hmain := Pipeline.hmainP_region _ 0 defs₀ Variants.none m main fun c => (main_chain c).trans rfl)
    (hA := fun c w => w.elim0)
    (hpf := fun c k => by obtain rfl : c = 0 := Subsingleton.elim _ _; rfl)
    (G := exitAt m) (hin := entered m) (hout := left m) (Q' := Ended m) (hQ' := fun _ h => ended m h)

end Launch

end Cert.Kernel.Hand

end
-- ==== Proof.Same.lean ====
/-
  The idealized kernel is the kernel's own text, so the same program at every reading of the floats.
-/
module

public import proofs.«01_k».proof.Proof.Gen.Kernel.Launch
public import proofs.«01_k».proof.Proof.Gen.KernelIdeal.Launch

@[expose] public section

set_option maxRecDepth 100000

noncomputable section

namespace Cert.Kernel.Hand

open Idealize.ShloMosaic Idealize.ShloMosaic.TcCoe Idealize.ShloMosaic.Tactic
open Idealize.SL.Sem

variable {F : FTy → Type} [FloatOps F]

theorem main_eq (c : Dev Cert.Kernel.nD) : Cert.KernelIdeal.main (F := F) c = Cert.Kernel.main (F := F) c := by chain_rfl
theorem body_eq : Cert.KernelIdeal.cc0__body (F := F) = Cert.Kernel.cc0__body (F := F) := by chain_rfl
theorem defs_eq : Cert.KernelIdeal.defs (F := F) = Cert.Kernel.defs (F := F) := by chain_rfl

end Cert.Kernel.Hand

end
-- ==== Proof.Row.lean ====
/-
  One row of the masked softmax over the extended reals: what the kernel computes at an element and what the reference
  computes there, as formulas in the row's entries, and that the two are equal.
-/
module

public import Idealize.ShloMosaic.Lib.IdealHost
public import Idealize.ShloMosaic.PureOps.Ideal.Laws

@[expose] public section

noncomputable section

namespace Cert.Row

open Idealize.ShloMosaic

/-- `x` where the flag is set, `y` elsewhere. -/
abbrev pick (b : Bool) (x y : EReal) : EReal := if b then x else y

/-- The entries kept by a mask, `-∞` elsewhere. -/
def kept (k : Fin 2048 → Bool) (x : Fin 2048 → EReal) : Fin 2048 → EReal := fun l => pick (k l) (x l) ⊥

/-- A row's maximum. -/
def top (a : Fin 2048 → EReal) : EReal := Finset.univ.fold max ⊥ a

/-- The number subtracted from a row before exponentiating: its maximum, or zero where that is infinite. -/
def shift (a : Fin 2048 → EReal) : EReal := if top a = ⊤ ∨ top a = ⊥ then 0 else top a

/-- The least denominator. -/
def tiny : EReal := Ideal.ofBits .f32 0x0DA24260#32

/-- The kernel's exponentials: of the kept entries, the others being `-∞`. -/
def kexp (k : Fin 2048 → Bool) (x : Fin 2048 → EReal) : Fin 2048 → EReal := fun l =>
  Ideal.exp (kept k x l - shift (kept k x))

/-- The kernel's value at column `l`, the row being in range as `v` says and the columns as `k`. -/
def kval (v : Bool) (k : Fin 2048 → Bool) (x : Fin 2048 → EReal) (l : Fin 2048) : EReal :=
  kexp k x l * (if v = true ∧ 0 < ∑ j, kexp k x j then Ideal.div 1 (max (∑ j, kexp k x j) tiny) else 0)

/-- The reference's exponentials: of every entry, those off the mask then put to zero. -/
def rexp (k : Fin 2048 → Bool) (x : Fin 2048 → EReal) : Fin 2048 → EReal := fun l =>
  pick (k l) (Ideal.exp (x l - shift (kept k x))) 0

/-- The reference's value at column `l`, the mask being row and column together. -/
def rval (k : Fin 2048 → Bool) (x : Fin 2048 → EReal) (l : Fin 2048) : EReal :=
  if 0 < ∑ j, rexp k x j then Ideal.div (rexp k x l) (max (∑ j, rexp k x j) tiny) else 0

theorem shift_ne_bot (a : Fin 2048 → EReal) : shift a ≠ ⊥ := by
  unfold shift
  split
  · exact EReal.zero_ne_bot
  · rename_i h; exact fun e => h (Or.inr e)

/-- On a row in range the two exponentials agree. -/
theorem kexp_eq (k : Fin 2048 → Bool) (x : Fin 2048 → EReal) : kexp k x = rexp k x := by
  funext l
  unfold kexp rexp
  cases h : k l
  · have e : kept k x l = ⊥ := by unfold kept; rw [h]; rfl
    rw [e, EReal.bot_sub]; rfl
  · have e : kept k x l = x l := by unfold kept; rw [h]; rfl
    rw [e]; rfl

/-- On a row out of range the reference's exponentials are zero. -/
theorem rexp_off (x : Fin 2048 → EReal) : rexp (fun _ => false) x = fun _ => 0 := rfl

theorem rval_off (x : Fin 2048 → EReal) (l : Fin 2048) : rval (fun _ => false) x l = 0 := by
  unfold rval
  rw [if_neg]
  simp only [rexp_off, Finset.sum_const_zero, lt_self_iff_false, not_false_eq_true]

/-- The kernel's value is the reference's. -/
theorem kval_eq (v : Bool) (k : Fin 2048 → Bool) (x : Fin 2048 → EReal) (l : Fin 2048) :
    kval v k x l = rval (fun j => v && k j) x l := by
  cases v
  · show _ = rval (fun _ => false) x l
    rw [rval_off]
    unfold kval
    rw [if_neg (by simp), mul_zero]
  · show _ = rval k x l
    unfold kval rval
    rw [kexp_eq]
    by_cases h : 0 < ∑ j, rexp k x j
    · rw [if_pos ⟨rfl, h⟩, if_pos h]
      exact Ideal.mul_one_div (ne_of_gt (lt_max_of_lt_left h))
    · rw [if_neg fun e => h e.2, if_neg h, mul_zero]

end Cert.Row

end
-- ==== Proof.RefValue.lean ====
/-
  The reference's result at an element, over the extended reals: the formula of one row of the masked softmax.
-/
module

public import proofs.«01_k».proof.Proof.Gen.ReferenceIdeal.Run
public import proofs.«01_k».proof.Proof.Row
public import Idealize.ShloMosaic.Lib.Pointwise
public import Idealize.ShloMosaic.Lib.Tactic.CleanTypes

@[expose] public section

noncomputable section

namespace Cert.ReferenceIdeal.Hand

open Cert.ReferenceIdeal Cert.ReferenceIdeal.Gen
open Idealize.ShloMosaic Idealize.ShloMosaic.TcCoe Idealize.SL.Sem

/-- Whether position `k` comes before the length `n`. -/
def before (k : ℕ) (n : BitVec 32) : Bool := (BitVec.ofNat 32 k).slt n

/-- The mask: positions before the row length and before the column length. -/
def mask (N1 N2 : IVec S16 32) : IVec S16x2048x2048 1 :=
  andi (broadcastInDim S16x2048x2048 ![0, 1, 2] bcast_S16x2048x1_S16x2048x2048_0_1_2 (broadcastInDim S16x2048x1 ![0, 1] bcast_S16x2048_S16x2048x1_0_1 (cmpi .slt (broadcastInDim S16x2048 ![0, 1] bcast_S1x2048_S16x2048_0_1 (broadcastInDim S1x2048 ![1] bcast_S2048_S1x2048_1 (iotaInDim S2048 32 0))) (broadcastInDim S16x2048 ![0, 1] bcast_S16x1_S16x2048_0_1 (broadcastInDim S16x1 ![0] bcast_S16_S16x1_0 N1)))))
    (broadcastInDim S16x2048x2048 ![0, 1, 2] bcast_S16x1x2048_S16x2048x2048_0_1_2 (broadcastInDim S16x1x2048 ![0, 2] bcast_S16x2048_S16x1x2048_0_2 (cmpi .slt (broadcastInDim S16x2048 ![0, 1] bcast_S1x2048_S16x2048_0_1 (broadcastInDim S1x2048 ![1] bcast_S2048_S1x2048_1 (iotaInDim S2048 32 0))) (broadcastInDim S16x2048 ![0, 1] bcast_S16x1_S16x2048_0_1 (broadcastInDim S16x1 ![0] bcast_S16_S16x1_0 N2)))))

/-- One number for each row, spread over the row's columns. -/
abbrev wide {α : Type} (v : S16x2048x1.Idx → α) : S16x2048x2048.Idx → α :=
  broadcastInDim S16x2048x2048 ![0, 1, 2] bcast_S16x2048x1_S16x2048x2048_0_1_2 v

abbrev one3 (w : BitVec 32) : FVec Ideal S16x2048x2048 .f32 := broadcastInDim S16x2048x2048 ![] bcast_S_S16x2048x2048 (constant S_ .f32 w)
abbrev one1 (w : BitVec 32) : FVec Ideal S16x2048x1 .f32 := broadcastInDim S16x2048x1 ![] bcast_S_S16x2048x1 (constant S_ .f32 w)

/-- Each row's maximum over the mask. -/
def peak (M : IVec S16x2048x2048 1) (X : FVec Ideal S16x2048x2048 .f32) : FVec Ideal S16x2048x1 .f32 :=
  broadcastInDim S16x2048x1 ![0, 1] bcast_S16x2048_S16x2048x1_0_1
    (Host.reduce FloatOps.maximumf (select M X (one3 0xFF800000#32)) (constant S_ .f32 0xFF800000#32) reducesTo_S16x2048x2048_S16x2048_d2 h_S_)

/-- The same, an infinite one put to zero. -/
def level (m : FVec Ideal S16x2048x1 .f32) : FVec Ideal S16x2048x1 .f32 :=
  select (cmpf .olt (Host.absf m) (one1 0x7F800000#32)) m (one1 0x00000000#32)

/-- The exponentials over the mask. -/
def expo (M : IVec S16x2048x2048 1) (X : FVec Ideal S16x2048x2048 .f32) (s : FVec Ideal S16x2048x1 .f32) : FVec Ideal S16x2048x2048 .f32 :=
  select M (Host.exp (subf X (wide s))) (one3 0x00000000#32)

/-- Each row's sum. -/
def total (e : FVec Ideal S16x2048x2048 .f32) : FVec Ideal S16x2048x1 .f32 :=
  broadcastInDim S16x2048x1 ![0, 1] bcast_S16x2048_S16x2048x1_0_1
    (Host.reduceAdd e (constant S_ .f32 0x00000000#32) reducesTo_S16x2048x2048_S16x2048_d2 h_S_)

/-- The quotient, zero on the rows whose sum is zero. -/
def ratio (e : FVec Ideal S16x2048x2048 .f32) (d : FVec Ideal S16x2048x1 .f32) : FVec Ideal S16x2048x2048 .f32 :=
  select (wide (cmpf .ogt d (one1 0x00000000#32))) (Host.divf e (wide (maximumf d (one1 0x0DA24260#32)))) (one3 0x00000000#32)

/-- The reference's result. -/
def out (X : FVec Ideal S16x2048x2048 .f32) (N1 N2 : IVec S16 32) : FVec Ideal S16x2048x2048 .f32 :=
  let e := expo (mask N1 N2) X (level (peak (mask N1 N2) X))
  ratio e (total e)

set_option maxRecDepth 8192 in
theorem res_eq (m : (ℓ : Loc nD τ sig) → Buf (Elt Ideal) ℓ) (c : Dev nD) :
    Value.res_main_v39 m c = out (m ((c.tc : Thread nD τ).loc main_arg0)) (m ((c.tc : Thread nD τ).loc main_arg1)) (m ((c.tc : Thread nD τ).loc main_arg2)) := by
  unfold Value.res_main_v39
  rfl

theorem select_flag (p q : Bool) (x y : EReal) :
    Scalar.select (IntOp.andi (BitVec.ofBool p) (BitVec.ofBool q)) x y = Row.pick (p && q) x y := by
  cases p <;> cases q <;> rfl

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- A number is finite when its absolute value is below infinity. -/
theorem abs_lt_top (x : EReal) : max x (-x) < ⊤ ↔ ¬ (x = ⊤ ∨ x = ⊥) := by
  rw [max_lt_iff, lt_top_iff_ne_top, lt_top_iff_ne_top, Ne, Ne, EReal.neg_eq_top_iff, not_or]

/-- The mask's flags along row `r` of batch `b`. -/
abbrev flags (N1 N2 : IVec S16 32) (b : Fin 16) (r : Fin 2048) : Fin 2048 → Bool := fun l =>
  before r.val (N1 (ix1 b)) && before l.val (N2 (ix1 b))

/-- Row `r` of batch `b`. -/
abbrev row (X : FVec Ideal S16x2048x2048 .f32) (b : Fin 16) (r : Fin 2048) : Fin 2048 → EReal := fun l => X (ix3 b r l)

theorem mask_apply (N1 N2 : IVec S16 32) (b : Fin 16) (r l : Fin 2048) :
    mask N1 N2 (ix3 b r l) = IntOp.andi (BitVec.ofBool (before r.val (N1 (ix1 b)))) (BitVec.ofBool (before l.val (N2 (ix1 b)))) := by
  pointwise [mask]
  rfl

theorem peak_apply (N1 N2 : IVec S16 32) (X : FVec Ideal S16x2048x2048 .f32) (b : Fin 16) (r : Fin 2048) (z : Fin 1) :
    peak (mask N1 N2) X (ix3 b r z) = Row.top (Row.kept (flags N1 N2 b r) (row X b r)) := by
  pointwise [peak]
  simp only [mask_apply, select_flag, ofBits_bot]
  rfl

theorem level_apply (m : FVec Ideal S16x2048x1 .f32) (b : Fin 16) (r : Fin 2048) (z : Fin 1) :
    level m (ix3 b r z) = if m (ix3 b r z) = ⊤ ∨ m (ix3 b r z) = ⊥ then 0 else m (ix3 b r z) := by
  pointwise [level]
  rw [ofBits_top]
  show (if max (m (ix3 b r z)) (-(m (ix3 b r z))) < ⊤ then _ else _) = _
  by_cases h : m (ix3 b r z) = ⊤ ∨ m (ix3 b r z) = ⊥
  · rw [if_neg fun e => (abs_lt_top _).1 e h, if_pos h]
  · rw [if_pos ((abs_lt_top _).2 h), if_neg h]

theorem expo_apply (N1 N2 : IVec S16 32) (X : FVec Ideal S16x2048x2048 .f32) (b : Fin 16) (r l : Fin 2048) :
    expo (mask N1 N2) X (level (peak (mask N1 N2) X)) (ix3 b r l) = Row.rexp (flags N1 N2 b r) (row X b r) l := by
  pointwise [expo]
  rw [mask_apply, select_flag, level_apply, peak_apply]
  rfl

theorem total_apply (e : FVec Ideal S16x2048x2048 .f32) (b : Fin 16) (r : Fin 2048) (z : Fin 1) :
    total e (ix3 b r z) = ∑ l, e (ix3 b r l) := by
  pointwise [total]

theorem ratio_apply (e : FVec Ideal S16x2048x2048 .f32) (d : FVec Ideal S16x2048x1 .f32) (b : Fin 16) (r l : Fin 2048) :
    ratio e d (ix3 b r l) = if 0 < d (ix3 b r 0) then Ideal.div (e (ix3 b r l)) (max (d (ix3 b r 0)) Row.tiny) else 0 := by
  pointwise [ratio]
  rfl

/-- The reference's result at an element is the formula of its row. -/
theorem out_apply (X : FVec Ideal S16x2048x2048 .f32) (N1 N2 : IVec S16 32) (b : Fin 16) (r l : Fin 2048) :
    out X N1 N2 (ix3 b r l) = Row.rval (flags N1 N2 b r) (row X b r) l := by
  unfold out
  rw [ratio_apply, total_apply]
  simp only [expo_apply]
  rfl

end Cert.ReferenceIdeal.Hand

end
-- ==== Proof.KerValue.lean ====
/-
  The kernel's result at an element, over the extended reals: the formula of one row of the masked softmax, with the
  kernel's way of leaving out the positions past a batch's lengths.
-/
module

public import proofs.«01_k».proof.Proof.Block
public import proofs.«01_k».proof.Proof.RefValue

@[expose] public section

noncomputable section

namespace Cert.Kernel.Entry

open Cert.Kernel Cert.Kernel.Gen
open Idealize.ShloMosaic Idealize.ShloMosaic.TcCoe Idealize.SL.Sem
open Cert.ReferenceIdeal.Hand (before ofBits_bot flags row out out_apply)
open Cert.Kernel.Hand (XBuf TBuf res blk xblk row0 zix)

/-- One number for each row, spread over the row's columns. -/
abbrev spread (v : FVec Ideal S256x1 .f32) : FVec Ideal S256x2048 .f32 := broadcastTo S256x2048 v broadcasts_S256x1_S256x2048

/-- The block with `-∞` at and past the column length. -/
def cut (nc : BitVec 32) (x : FVec Ideal S1x256x2048 .f32) : FVec Ideal S256x2048 .f32 :=
  select (cmpi .slt (iota .tc S256x2048 32 [1] iota_S256x2048_d1_w32) (broadcast S256x2048 nc))
    (shapeCast S256x2048 x shapeCasts_S1x256x2048_S256x2048) (broadcast S256x2048 (Scalar.ofBits (F := Ideal) .f32 0xFF800000#32))

/-- Each row's maximum. -/
def crest (a : FVec Ideal S256x2048 .f32) : FVec Ideal S256x1 .f32 :=
  shapeCast S256x1 (multiReduction .maximumf [1] S256 a 0xFF800000#32 reduces_S256x2048_S256 (.inl rfl) rfl) shapeCasts_S256_S256x1

/-- The same, an infinite one put to zero. -/
def base (m : FVec Ideal S256x1 .f32) : FVec Ideal S256x1 .f32 :=
  select (xori (weird m) (constantI S256x1 1 1#1)) m (broadcast S256x1 (Scalar.ofBits (F := Ideal) .f32 0x00000000#32))

/-- The exponentials. -/
def power (a : FVec Ideal S256x2048 .f32) (s : FVec Ideal S256x1 .f32) : FVec Ideal S256x2048 .f32 := exp (subf a (spread s))

/-- Each row's sum. -/
def sums (e : FVec Ideal S256x2048 .f32) : FVec Ideal S256x1 .f32 :=
  shapeCast S256x1 (multiReduction .add [1] S256 e 0x00000000#32 reduces_S256x2048_S256 (.inl rfl) rfl) shapeCasts_S256_S256x1

/-- Each row's factor: the reciprocal of its sum, zero on the rows out of range or with sum zero. -/
def factor (r0 nr : BitVec 32) (d : FVec Ideal S256x1 .f32) : FVec Ideal S256x1 .f32 :=
  select (andi (cmpi .slt (addi (broadcast S256x1 r0) (iota .tc S256x1 32 [0] iota_S256x1_d0_w32)) (broadcast S256x1 nr))
      (cmpf .ogt d (broadcast S256x1 (Scalar.ofBits (F := Ideal) .f32 0x00000000#32))))
    (divf (broadcast S256x1 (Scalar.ofBits (F := Ideal) .f32 0x3F800000#32)) (maximumf d (broadcast S256x1 (Scalar.ofBits (F := Ideal) .f32 0x0DA24260#32))))
    (broadcast S256x1 (Scalar.ofBits (F := Ideal) .f32 0x00000000#32))

/-- The block the kernel computes, by these stages. -/
theorem pay2_eq (w nr nc : BitVec 32) (x : FVec Ideal S1x256x2048 .f32) :
    k0_pay2 (F := Ideal) w nr nc x = shapeCast S1x256x2048
      (mulf (power (cut nc x) (base (crest (cut nc x))))
        (spread (factor (Scalar.muli (Scalar.remsi w 8#32) 256#32) nr (sums (power (cut nc x) (base (crest (cut nc x))))))))
      shapeCasts_S256x2048_S1x256x2048 := by
  unfold k0_pay2
  rfl

theorem cut_apply (nc : BitVec 32) (x : FVec Ideal S1x256x2048 .f32) (r : Fin 256) (l : Fin 2048) :
    cut nc x (ix2 r l) = Row.kept (fun l => before l.val nc) (fun l => x (ix3 0 r l)) l := by
  pointwise [cut]
  rw [ofBits_bot]
  show Scalar.select (BitVec.ofBool (before l.val nc)) _ _ = Row.pick (before l.val nc) _ _
  cases before l.val nc <;> rfl

theorem crest_apply (a : FVec Ideal S256x2048 .f32) (r : Fin 256) (z : Fin 1) : crest a (ix2 r z) = Row.top fun l => a (ix2 r l) := by
  pointwise [crest]
  rw [ofBits_bot]
  rfl

theorem base_apply (m : FVec Ideal S256x1 .f32) (r : Fin 256) (z : Fin 1) :
    base m (ix2 r z) = if m (ix2 r z) = ⊤ ∨ m (ix2 r z) = ⊥ then 0 else m (ix2 r z) := by
  pointwise [base]
  show Scalar.select (IntOp.xori (BitVec.ofBool (decide (m (ix2 r z) = ⊤ ∨ m (ix2 r z) = ⊥))) 1#1) _ _ = _
  by_cases h : m (ix2 r z) = ⊤ ∨ m (ix2 r z) = ⊥
  · rw [if_pos h, decide_eq_true h]; rfl
  · rw [if_neg h, decide_eq_false h]; rfl

theorem power_apply (a : FVec Ideal S256x2048 .f32) (s : FVec Ideal S256x1 .f32) (r : Fin 256) (l : Fin 2048) :
    power a s (ix2 r l) = Ideal.exp (a (ix2 r l) - s (ix2 r 0)) := by
  pointwise [power]

theorem sums_apply (e : FVec Ideal S256x2048 .f32) (r : Fin 256) (z : Fin 1) : sums e (ix2 r z) = ∑ l, e (ix2 r l) := by
  pointwise [sums]

theorem factor_apply (r0 nr : BitVec 32) (d : FVec Ideal S256x1 .f32) (r : Fin 256) (z : Fin 1) :
    factor r0 nr d (ix2 r z) = if (r0 + BitVec.ofNat 32 r.val).slt nr = true ∧ 0 < d (ix2 r z)
      then Ideal.div 1 (max (d (ix2 r z)) Row.tiny) else 0 := by
  pointwise [factor]
  show Scalar.select (IntOp.andi (BitVec.ofBool ((r0 + BitVec.ofNat 32 r.val).slt nr)) _) _ _ = _
  cases (r0 + BitVec.ofNat 32 r.val).slt nr <;> by_cases h : 0 < d (ix2 r z)
  · rw [if_neg fun e => Bool.false_ne_true e.1, decide_eq_true h]; rfl
  · rw [if_neg fun e => h e.2, decide_eq_false h]; rfl
  · rw [if_pos ⟨rfl, h⟩, decide_eq_true h]; rfl
  · rw [if_neg fun e => h e.2, decide_eq_false h]; rfl

/-- The exponentials of the block, by rows. -/
theorem power_cut (nc : BitVec 32) (x : FVec Ideal S1x256x2048 .f32) (r : Fin 256) (l : Fin 2048) :
    power (cut nc x) (base (crest (cut nc x))) (ix2 r l)
      = Row.kexp (fun l => before l.val nc) (fun l => x (ix3 0 r l)) l := by
  rw [power_apply, base_apply, crest_apply]
  simp only [cut_apply]
  rfl

/-- The block the kernel computes, at an element: the formula of the row. -/
theorem pay2_apply (w nr nc : BitVec 32) (x : FVec Ideal S1x256x2048 .f32) (r : Fin 256) (l : Fin 2048) :
    k0_pay2 (F := Ideal) w nr nc x (ix3 0 r l)
      = Row.kval ((Scalar.muli (Scalar.remsi w 8#32) 256#32 + BitVec.ofNat 32 r.val).slt nr) (fun l => before l.val nc) (fun l => x (ix3 0 r l)) l := by
  rw [pay2_eq]
  pointwise
  rw [power_cut, factor_apply, sums_apply]
  simp only [power_cut]
  rfl

theorem pay1_apply (z : S1x256x2048.Idx) : k0_pay1 (F := Ideal) z = 0 := by
  pointwise [k0_pay1]

/-- A step's first row. -/
theorem row0_eq {u : ℕ} (hu : u < 128) : row0 u = BitVec.ofNat 32 (256 * (u % 8)) := by
  have h : ∀ u : Fin 128, row0 u.val = BitVec.ofNat 32 (256 * (u.val % 8)) := by decide +kernel
  exact h ⟨u, hu⟩

/-- A step whose first row is out of range has every row out of range. -/
theorem past {n : BitVec 32} {u r : ℕ} (hu : u < 128) (hr : r < 256)
    (h : Scalar.cmpi .sge (row0 u) n = 1#1) : before (256 * (u % 8) + r) n = false := by
  rw [Hand.cmp_sge_slt, row0_eq hu] at h
  have h1 : ¬ (BitVec.ofNat 32 (256 * (u % 8))).slt n = true := fun e => h (by show BitVec.ofBool _ = _; rw [e]; rfl)
  rw [BitVec.slt_iff_toInt_lt, Hand.toInt_small (by omega)] at h1
  rw [← Bool.not_eq_true]
  show ¬ (BitVec.ofNat 32 (256 * (u % 8) + r)).slt n = true
  rw [BitVec.slt_iff_toInt_lt, Hand.toInt_small (by omega)]
  omega

/-- Row `r` of step `u`'s block, at column `l`. -/
theorem blk_apply (X : XBuf Ideal) (N1 N2 : TBuf Ideal) {u : ℕ} (hu : u < 128) (b : Fin 16) (hb : u / 8 = b.val)
    (r : Fin 256) (q : Fin 2048) (hq : 256 * (u % 8) + r.val = q.val) (l : Fin 2048) :
    blk X N1 N2 u (ix3 0 r l) = Row.rval (flags N1 N2 b q) (row X b q) l := by
  have e1 : Hand.ix1 (u / 8) = ix1 b := by
    funext i; apply Fin.ext; fin_cases i
    show u / 8 % 16 = b.val
    have := b.isLt; omega
  have hx : (fun l : Fin 2048 => xblk X u (ix3 0 r l)) = row X b q := by
    funext l
    show X (Hand.ix3 (u / 8) (256 * (u % 8) + r.val) l.val) = X (ix3 b q l)
    rw [Hand.ix3_eq (ix3 b q l) (a := u / 8) (b := 256 * (u % 8) + r.val) (c := l.val) hb.symm hq.symm rfl]
  unfold blk
  rw [e1]
  split
  · rename_i h
    have hp := past hu r.isLt h
    rw [hq] at hp
    have hf : flags N1 N2 b q = fun _ => false := by
      funext l; show (before q.val (N1 (ix1 b)) && _) = false; rw [hp]; rfl
    rw [pay1_apply, hf, Row.rval_off]
  · have hv : (Scalar.muli (Scalar.remsi (BitVec.ofNat 32 u) 8#32) 256#32 + BitVec.ofNat 32 r.val).slt (N1 (ix1 b)) = before q.val (N1 (ix1 b)) := by
      show (row0 u + BitVec.ofNat 32 r.val).slt _ = (BitVec.ofNat 32 q.val).slt _
      rw [row0_eq hu, ← BitVec.ofNat_add, hq]
    rw [pay2_apply, hv, hx, Row.kval_eq]

theorem res_apply (X : XBuf Ideal) (N1 N2 : TBuf Ideal) (b : Fin 16) (r l : Fin 2048) :
    res X N1 N2 (ix3 b r l) = out X N1 N2 (ix3 b r l) := by
  have h0 : b.val < 16 := b.isLt
  have h1 : r.val < 2048 := r.isLt
  have h2 : l.val < 2048 := l.isLt
  have ez : zix r.val l.val = ix3 0 ⟨r.val % 256, Nat.mod_lt _ (by decide)⟩ l := by
    funext k; apply Fin.ext; fin_cases k
    · rfl
    · rfl
    · show l.val % 2048 = l.val; omega
  show blk X N1 N2 (8 * b.val + r.val / 256) (zix r.val l.val) = _
  rw [ez, out_apply]
  exact blk_apply X N1 N2 (by omega) b (by omega) _ r (by show 256 * ((8 * b.val + r.val / 256) % 8) + r.val % 256 = _; omega) l

/-- The kernel's result is the reference's. -/
theorem res_eq (X : XBuf Ideal) (N1 N2 : TBuf Ideal) : res X N1 N2 = out X N1 N2 := by
  funext i
  have ei : i = ix3 (i 0) (i 1) (i 2) := by
    funext k; fin_cases k <;> rfl
  rw [ei]
  exact res_apply X N1 N2 (i 0) (i 1) (i 2)

end Cert.Kernel.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.KerValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel's run, at any reading of the floats. -/
theorem kernel_run {F : FTy → Type} [FloatOps F] (m : (ℓ : Loc Cert.Kernel.nD Cert.Kernel.τ Cert.Kernel.sig) → Buf (Elt F) ℓ)
    (g : Dev Cert.Kernel.nD → PrngReg) :
    θ_run Cert.Kernel.defs (onTc (τ := Cert.Kernel.τ) (Cert.Kernel.main (F := F))) ⟨m, fun _ => 0, g⟩ (Cert.Kernel.Hand.Ended m) :=
  Cert.Kernel.Hand.run m g

/-- The idealized kernel's, which is the same program. -/
theorem ideal_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (Cert.Kernel.Hand.Ended m) := by
  rw [show Cert.KernelIdeal.main (F := Ideal) = Cert.Kernel.main (F := Ideal) from funext fun c => Cert.Kernel.Hand.main_eq c,
    Cert.Kernel.Hand.defs_eq]
  exact kernel_run m g

theorem frame_kernel : Cert.quiescent_Kernel (hKernel := Cert.Kernel.Gen.facts) := fun m g _ =>
  (θ_run _ _ _).mono (fun _ h => ⟨fun c => (h.1 c).2, h.2⟩) (kernel_run m g)

theorem frame_ideal : Cert.quiescent_KernelIdeal (hKernelIdeal := Cert.KernelIdeal.Gen.facts) := fun m g _ =>
  (θ_run _ _ _).mono (fun _ h => ⟨fun c => (h.1 c).2, h.2⟩) (ideal_run m g)

theorem frame_ref : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Both programs end with the kernel's outcome, which is the reference's value of the same arguments. -/
theorem same_value : Cert.algebraic_KernelIdeal_ReferenceIdeal (hKernelIdeal := Cert.KernelIdeal.Gen.facts)
    (hReferenceIdeal := Cert.ReferenceIdeal.Gen.facts) := by
  intro m g m' g' _ hagree
  refine ⟨fun c => Cert.Kernel.Hand.outcome (F := Ideal) m c,
    (θ_run _ _ _).mono (fun _ h => h.1) (ideal_run m g),
    (θ_run Cert.ReferenceIdeal.defs _ _).mono (fun _ h c => ⟨(h c).1.trans ?_, (h c).2⟩) (Cert.ReferenceIdeal.Value.run (F := Ideal) m' g')⟩
  rw [Cert.ReferenceIdeal.Hand.res_eq, (hagree c).1, (hagree c).2.1, (hagree c).2.2]
  exact (Cert.Kernel.Entry.res_eq _ _ _).symm

theorem claim : Cert.Claim := ⟨Cert.Kernel.Gen.facts, Cert.KernelIdeal.Gen.facts, Cert.ReferenceIdeal.Gen.facts,
  frame_kernel, frame_ideal, frame_ref, trivial, same_value⟩

end Cert.Proof

end
